-- ==== Defs.lean ====
def Pre_Kernel [hPre_index_in_range : Cert.Pre_index_in_range.Facts] (m : (ℓ : Loc Cert.Kernel.nD Cert.Kernel.τ Cert.Kernel.sig) → Buf (Elt Bits) ℓ) : Prop :=
  ∀ c : Dev Cert.Kernel.nD,
    (Cert.Pre_index_in_range.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_index_in_range : Cert.Pre_index_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_index_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_index_in_range : Cert.Pre_index_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_index_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] [hPre_index_in_range : Cert.Pre_index_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] [hPre_index_in_range : Cert.Pre_index_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] [hPre_index_in_range : Cert.Pre_index_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_index_in_range : Cert.Pre_index_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v21) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_index_in_range : Cert.Pre_index_in_range.Facts),
    quiescent_Kernel (hKernel := hKernel) (hPre_index_in_range := hPre_index_in_range)
    ∧ quiescent_KernelIdeal (hKernelIdeal := hKernelIdeal) (hPre_index_in_range := hPre_index_in_range)
    ∧ quiescent_ReferenceIdeal (hReferenceIdeal := hReferenceIdeal) (hPre_index_in_range := hPre_index_in_range)
    ∧ preserves_Kernel_KernelIdeal
    ∧ algebraic_KernelIdeal_ReferenceIdeal (hKernelIdeal := hKernelIdeal) (hReferenceIdeal := hReferenceIdeal) (hPre_index_in_range := hPre_index_in_range)
-- ==== Pre_index_in_range.lean ====
abbrev S3200000 : Shape := ⟨1, ![3200000]⟩
abbrev S_ : Shape := ⟨0, ![]⟩

class Facts : Prop where
  bcast_S_S3200000 : S_.BroadcastsInDim S3200000 (![] : Fin 0 → Fin S3200000.rank)
  reducesTo_S3200000_S_d0 : S3200000.ReducesTo [0] S_
  h_S_ : 0 < S_.numel

variable [Facts]

def fn {F : FTy → Type} [FloatOps F] (main_arg0 : IVec S3200000 32) (main_arg1 : FVec F S3200000 .f32) (main_arg2 : FVec F S3200000 .f32) (main_arg3 : FVec F S3200000 .f32) (main_arg4 : FVec F S_ .f32) : IVec S_ 1 :=
  let main_c : IVec S_ 32 := constantI S_ 32 0#32
  let main_v0 : IVec S3200000 32 := broadcastInDim S3200000 ![] bcast_S_S3200000 main_c
  let main_v1 : IVec S3200000 1 := cmpi .sge main_arg0 main_v0
  let main_c_0 : IVec S_ 32 := constantI S_ 32 100000#32
  let main_v2 : IVec S3200000 32 := broadcastInDim S3200000 ![] bcast_S_S3200000 main_c_0
  let main_v3 : IVec S3200000 1 := cmpi .slt main_arg0 main_v2
  let main_v4 : IVec S3200000 1 := andi main_v1 main_v3
  let main_c_1 : IVec S_ 1 := constantI S_ 1 1#1
  let main_v5 : IVec S_ 1 := (fun x v => Host.reduce IntOp.andi x v reducesTo_S3200000_S_d0 h_S_) main_v4 main_c_1
  main_v5
-- ==== Kernel.lean ====
abbrev S3200000 : Shape := ⟨1, ![3200000]⟩
abbrev S_ : Shape := ⟨0, ![]⟩
abbrev S16 : Shape := ⟨1, ![16]⟩
abbrev S32x65536 : Shape := ⟨2, ![32, 65536]⟩
abbrev S4000 : Shape := ⟨1, ![4000]⟩
abbrev S65536 : Shape := ⟨1, ![65536]⟩
abbrev S1x65536 : Shape := ⟨2, ![1, 65536]⟩
abbrev S5120 : Shape := ⟨1, ![5120]⟩
abbrev S5000 : Shape := ⟨1, ![5000]⟩
abbrev S10000 : Shape := ⟨1, ![10000]⟩

abbrev nBuf : Table → Nat
  | .hbm => 12
  | .local .tc .vmem => 3
  | .local .scVector .vmem => 14
  | _ => 0

abbrev bufTy : (tb : Table) → Fin (nBuf tb) → BufTy
  | .hbm, ⟨0, _⟩ => ⟨S3200000, .i32⟩
  | .hbm, ⟨1, _⟩ => ⟨S3200000, .f32⟩
  | .hbm, ⟨2, _⟩ => ⟨S3200000, .f32⟩
  | .hbm, ⟨3, _⟩ => ⟨S3200000, .f32⟩
  | .hbm, ⟨4, _⟩ => ⟨S_, .f32⟩
  | .hbm, ⟨5, _⟩ => ⟨S16, .f32⟩
  | .hbm, ⟨6, _⟩ => ⟨S32x65536, .f32⟩
  | .hbm, ⟨7, _⟩ => ⟨S5120, .f32⟩
  | .hbm, ⟨8, _⟩ => ⟨S5120, .f32⟩
  | .hbm, ⟨9, _⟩ => ⟨S5000, .f32⟩
  | .hbm, ⟨10, _⟩ => ⟨S5000, .f32⟩
  | .hbm, ⟨11, _⟩ => ⟨S10000, .f32⟩
  | .local .tc .vmem, ⟨0, _⟩ => ⟨S32x65536, .f32⟩
  | .local .tc .vmem, ⟨1, _⟩ => ⟨S5120, .f32⟩
  | .local .tc .vmem, ⟨2, _⟩ => ⟨S5120, .f32⟩
  | .local .scVector .vmem, ⟨0, _⟩ => ⟨S4000, .i32⟩
  | .local .scVector .vmem, ⟨1, _⟩ => ⟨S4000, .i32⟩
  | .local .scVector .vmem, ⟨2, _⟩ => ⟨S4000, .i32⟩
  | .local .scVector .vmem, ⟨3, _⟩ => ⟨S4000, .f32⟩
  | .local .scVector .vmem, ⟨4, _⟩ => ⟨S4000, .f32⟩
  | .local .scVector .vmem, ⟨5, _⟩ => ⟨S4000, .f32⟩
  | .local .scVector .vmem, ⟨6, _⟩ => ⟨S4000, .f32⟩
  | .local .scVector .vmem, ⟨7, _⟩ => ⟨S4000, .f32⟩
  | .local .scVector .vmem, ⟨8, _⟩ => ⟨S4000, .f32⟩
  | .local .scVector .vmem, ⟨9, _⟩ => ⟨S4000, .f32⟩
  | .local .scVector .vmem, ⟨10, _⟩ => ⟨S4000, .f32⟩
  | .local .scVector .vmem, ⟨11, _⟩ => ⟨S4000, .f32⟩
  | .local .scVector .vmem, ⟨12, _⟩ => ⟨S65536, .f32⟩
  | .local .scVector .vmem, ⟨13, _⟩ => ⟨S16, .f32⟩
  | _, _ => ⟨S3200000, .i32⟩

abbrev bufScoped : (cs : CoreSpace) → Fin (nBuf (.local .tc cs)) → Bool
  | .vmem, ⟨0, _⟩ => true
  | .vmem, ⟨1, _⟩ => true
  | .vmem, ⟨2, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 17 → Bool
  | ⟨0, _⟩ => false
  | ⟨1, _⟩ => false
  | ⟨2, _⟩ => false
  | ⟨3, _⟩ => false
  | ⟨4, _⟩ => false
  | ⟨5, _⟩ => false
  | ⟨6, _⟩ => false
  | ⟨7, _⟩ => false
  | ⟨8, _⟩ => false
  | ⟨9, _⟩ => false
  | ⟨10, _⟩ => false
  | ⟨11, _⟩ => false
  | ⟨12, _⟩ => false
  | ⟨13, _⟩ => false
  | ⟨14, _⟩ => true
  | ⟨15, _⟩ => true
  | ⟨16, _⟩ => true
  | _ => false

abbrev sig : RefSig :=
  ofTables nBuf rfl bufTy 4 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2_0 : Ref sig .tc := ⟨.hbm, 7, rfl⟩
abbrev main_v2_1 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_arg0_scv : Ref sig .scVector := ⟨.hbm, 0, rfl⟩
abbrev main_arg1_scv : Ref sig .scVector := ⟨.hbm, 1, rfl⟩
abbrev main_arg2_scv : Ref sig .scVector := ⟨.hbm, 2, rfl⟩
abbrev main_arg3_scv : Ref sig .scVector := ⟨.hbm, 3, rfl⟩
abbrev main_v0_scv : Ref sig .scVector := ⟨.hbm, 5, rfl⟩
abbrev main_v1_scv : Ref sig .scVector := ⟨.hbm, 6, rfl⟩
abbrev cc1_stg0_0 : Ref sig .tc := ⟨.vmem, 0, rfl⟩
abbrev cc1_stg1_0 : Ref sig .tc := ⟨.vmem, 1, rfl⟩
abbrev cc1_stg2_0 : Ref sig .tc := ⟨.vmem, 2, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev cc0_scratch4 : Ref sig .scVector := ⟨.vmem, 4, rfl⟩
abbrev cc0_scratch5 : Ref sig .scVector := ⟨.vmem, 5, rfl⟩
abbrev cc0_scratch6 : Ref sig .scVector := ⟨.vmem, 6, rfl⟩
abbrev cc0_scratch7 : Ref sig .scVector := ⟨.vmem, 7, rfl⟩
abbrev cc0_scratch8 : Ref sig .scVector := ⟨.vmem, 8, rfl⟩
abbrev cc0_scratch9 : Ref sig .scVector := ⟨.vmem, 9, rfl⟩
abbrev cc0_scratch10 : Ref sig .scVector := ⟨.vmem, 10, rfl⟩
abbrev cc0_scratch11 : Ref sig .scVector := ⟨.vmem, 11, rfl⟩
abbrev cc0_scratch12 : Ref sig .scVector := ⟨.vmem, 12, rfl⟩
abbrev cc0_scratch13 : Ref sig .scVector := ⟨.vmem, 13, rfl⟩
abbrev cc1_sem0_0 : DmaSem sig := 14
abbrev cc1_sem1_0 : DmaSem sig := 15
abbrev cc1_sem2_0 : DmaSem sig := 16
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) (c0_i32 : BitVec 32) : Fin 1 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c100000_i32 : BitVec 32 := 100000#32
  let v2 : BitVec 32 := Scalar.muli v1 c100000_i32
  let v3 : BitVec 32 := Scalar.addi v2 c0_i32
  ![v3.toNat]
def k0_off1_at (r : Fin 3) : BitVec 32 :=
  if r.val < 1 then
    0#32
  else
    if r.val < 2 then
      4000#32
    else
      96000#32
@[reducible] def k0_t1_loop : Scf.Loop 32 :=
  let c0_i32_0 : BitVec 32 := 0#32
  let c4096_i32 : BitVec 32 := 4096#32
  let v23 : BitVec 32 := Scalar.addi c0_i32_0 c4096_i32
  let c1_i32 : BitVec 32 := 1#32
  ⟨c0_i32_0, v23, c1_i32⟩
def k0_off2 (k0_t1 : Fin k0_t1_loop.trips) : Fin 1 → Nat :=
  let c0_i32_10 : BitVec 32 := 0#32
  let c0_i32_0 : BitVec 32 := 0#32
  let c1_i32 : BitVec 32 := 1#32
  let arg34 : BitVec 32 := Scf.iv c0_i32_0 c1_i32 k0_t1
  let c1_i32_9 : BitVec 32 := 1#32
  let v35 : BitVec 32 := Scalar.muli arg34 c1_i32_9
  let v36 : BitVec 32 := Scalar.addi c0_i32_10 v35
  let c16_i32_11 : BitVec 32 := 16#32
  let v37 : BitVec 32 := Scalar.muli v36 c16_i32_11
  let v38 : Index := Scalar.indexCast v37
  ![v38.toNat]
@[reducible] def k0_t2_loop : Scf.Loop 32 :=
  let c0_i32_3 : BitVec 32 := 0#32
  let c8_i32 : BitVec 32 := 8#32
  let v24 : BitVec 32 := Scalar.addi c0_i32_3 c8_i32
  let c1_i32_4 : BitVec 32 := 1#32
  ⟨c0_i32_3, v24, c1_i32_4⟩
def k0_off3 (i : grid0.Coords) (k0_t2 : Fin k0_t2_loop.trips) (c0_i32_9 : BitVec 32) : Fin 1 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c100000_i32 : BitVec 32 := 100000#32
  let v2 : BitVec 32 := Scalar.muli v1 c100000_i32
  let c0_i32_3 : BitVec 32 := 0#32
  let c1_i32_4 : BitVec 32 := 1#32
  let arg34 : BitVec 32 := Scf.iv c0_i32_3 c1_i32_4 k0_t2
  let c3_i32 : BitVec 32 := 3#32
  let v35 : BitVec 32 := Scalar.muli arg34 c3_i32
  let v36 : BitVec 32 := Scalar.addi v35 c0_i32_9
  let c4000_i32_10 : BitVec 32 := 4000#32
  let v37 : BitVec 32 := Scalar.muli v36 c4000_i32_10
  let v38 : BitVec 32 := Scalar.addi v2 v37
  ![v38.toNat]
def k0_cond1 (k0_t2 : Fin k0_t2_loop.trips) : BitVec 1 :=
  let c0_i32_3 : BitVec 32 := 0#32
  let c1_i32_4 : BitVec 32 := 1#32
  let arg34 : BitVec 32 := Scf.iv c0_i32_3 c1_i32_4 k0_t2
  let c3_i32 : BitVec 32 := 3#32
  let v35 : BitVec 32 := Scalar.muli arg34 c3_i32
  let c0_i32_9 : BitVec 32 := 0#32
  let v36 : BitVec 32 := Scalar.addi v35 c0_i32_9
  let c2_i32 : BitVec 32 := 2#32
  let v47 : BitVec 32 := Scalar.addi v36 c2_i32
  let c25_i32 : BitVec 32 := 25#32
  let v48 : BitVec 1 := Scalar.cmpi .slt v47 c25_i32
  let v49 : BitVec 32 := Scalar.extui v48
  let c0_i32_11 : BitVec 32 := 0#32
  let v50 : BitVec 1 := Scalar.cmpi .ne v49 c0_i32_11
  v50

def k0_off4 (i : grid0.Coords) (k0_t2 : Fin k0_t2_loop.trips) : Fin 1 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c100000_i32 : BitVec 32 := 100000#32
  let v2 : BitVec 32 := Scalar.muli v1 c100000_i32
  let c0_i32_3 : BitVec 32 := 0#32
  let c1_i32_4 : BitVec 32 := 1#32
  let arg34 : BitVec 32 := Scf.iv c0_i32_3 c1_i32_4 k0_t2
  let c3_i32 : BitVec 32 := 3#32
  let v35 : BitVec 32 := Scalar.muli arg34 c3_i32
  let c0_i32_9 : BitVec 32 := 0#32
  let v36 : BitVec 32 := Scalar.addi v35 c0_i32_9
  let c2_i32_34 : BitVec 32 := 2#32
  let v84 : BitVec 32 := Scalar.addi v36 c2_i32_34
  let c4000_i32_35 : BitVec 32 := 4000#32
  let v85 : BitVec 32 := Scalar.muli v84 c4000_i32_35
  let v86 : BitVec 32 := Scalar.addi v2 v85
  ![v86.toNat]
@[reducible] def k0_t3_loop : Scf.Loop 32 :=
  let c0_i32_12 : BitVec 32 := 0#32
  let c250_i32_13 : BitVec 32 := 250#32
  let v51 : BitVec 32 := Scalar.addi c0_i32_12 c250_i32_13
  let c1_i32_14 : BitVec 32 := 1#32
  ⟨c0_i32_12, v51, c1_i32_14⟩
def k0_off5 (k0_t3 : Fin k0_t3_loop.trips) : Fin 1 → Nat :=
  let c0_i32_35 : BitVec 32 := 0#32
  let c0_i32_12 : BitVec 32 := 0#32
  let c1_i32_14 : BitVec 32 := 1#32
  let arg35 : BitVec 32 := Scf.iv c0_i32_12 c1_i32_14 k0_t3
  let c1_i32_34 : BitVec 32 := 1#32
  let v84 : BitVec 32 := Scalar.muli arg35 c1_i32_34
  let v85 : BitVec 32 := Scalar.addi c0_i32_35 v84
  let c16_i32_36 : BitVec 32 := 16#32
  let v86 : BitVec 32 := Scalar.muli v85 c16_i32_36
  let v87 : Index := Scalar.indexCast v86
  ![v87.toNat]

def k0_chk1 (v119 : IVec S16 32) : Prop :=
  (∀ a x, ((![v119] : Fin 1 → IVec S16 32) a x).toNat < S65536.size a)
theorem k0_idx1_inb : ∀ (v119 : IVec S16 32) (k0_hw1 : k0_chk1 v119), ∀ a x, ((![v119] : Fin 1 → IVec S16 32) a x).toNat < S65536.size a := fun v119 k0_hw1 => k0_hw1
def k0_cond2 (k0_t2 : Fin k0_t2_loop.trips) : BitVec 1 :=
  let c0_i32_3 : BitVec 32 := 0#32
  let c1_i32_4 : BitVec 32 := 1#32
  let arg34 : BitVec 32 := Scf.iv c0_i32_3 c1_i32_4 k0_t2
  let c3_i32 : BitVec 32 := 3#32
  let v35 : BitVec 32 := Scalar.muli arg34 c3_i32
  let c1_i32_16 : BitVec 32 := 1#32
  let v52 : BitVec 32 := Scalar.addi v35 c1_i32_16
  let c2_i32_18 : BitVec 32 := 2#32
  let v63 : BitVec 32 := Scalar.addi v52 c2_i32_18
  let c25_i32_19 : BitVec 32 := 25#32
  let v64 : BitVec 1 := Scalar.cmpi .slt v63 c25_i32_19
  let v65 : BitVec 32 := Scalar.extui v64
  let c0_i32_20 : BitVec 32 := 0#32
  let v66 : BitVec 1 := Scalar.cmpi .ne v65 c0_i32_20
  v66

def k0_off6 (i : grid0.Coords) (k0_t2 : Fin k0_t2_loop.trips) : Fin 1 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c100000_i32 : BitVec 32 := 100000#32
  let v2 : BitVec 32 := Scalar.muli v1 c100000_i32
  let c0_i32_3 : BitVec 32 := 0#32
  let c1_i32_4 : BitVec 32 := 1#32
  let arg34 : BitVec 32 := Scf.iv c0_i32_3 c1_i32_4 k0_t2
  let c3_i32 : BitVec 32 := 3#32
  let v35 : BitVec 32 := Scalar.muli arg34 c3_i32
  let c1_i32_16 : BitVec 32 := 1#32
  let v52 : BitVec 32 := Scalar.addi v35 c1_i32_16
  let c2_i32_34 : BitVec 32 := 2#32
  let v84 : BitVec 32 := Scalar.addi v52 c2_i32_34
  let c4000_i32_35 : BitVec 32 := 4000#32
  let v85 : BitVec 32 := Scalar.muli v84 c4000_i32_35
  let v86 : BitVec 32 := Scalar.addi v2 v85
  ![v86.toNat]
@[reducible] def k0_t4_loop : Scf.Loop 32 :=
  let c0_i32_21 : BitVec 32 := 0#32
  let c250_i32_22 : BitVec 32 := 250#32
  let v67 : BitVec 32 := Scalar.addi c0_i32_21 c250_i32_22
  let c1_i32_23 : BitVec 32 := 1#32
  ⟨c0_i32_21, v67, c1_i32_23⟩
def k0_off7 (k0_t4 : Fin k0_t4_loop.trips) : Fin 1 → Nat :=
  let c0_i32_35 : BitVec 32 := 0#32
  let c0_i32_21 : BitVec 32 := 0#32
  let c1_i32_23 : BitVec 32 := 1#32
  let arg35 : BitVec 32 := Scf.iv c0_i32_21 c1_i32_23 k0_t4
  let c1_i32_34 : BitVec 32 := 1#32
  let v84 : BitVec 32 := Scalar.muli arg35 c1_i32_34
  let v85 : BitVec 32 := Scalar.addi c0_i32_35 v84
  let c16_i32_36 : BitVec 32 := 16#32
  let v86 : BitVec 32 := Scalar.muli v85 c16_i32_36
  let v87 : Index := Scalar.indexCast v86
  ![v87.toNat]

def k0_chk2 (v119 : IVec S16 32) : Prop :=
  (∀ a x, ((![v119] : Fin 1 → IVec S16 32) a x).toNat < S65536.size a)
theorem k0_idx2_inb : ∀ (v119 : IVec S16 32) (k0_hw2 : k0_chk2 v119), ∀ a x, ((![v119] : Fin 1 → IVec S16 32) a x).toNat < S65536.size a := fun v119 k0_hw2 => k0_hw2
def k0_cond3 (k0_t2 : Fin k0_t2_loop.trips) : BitVec 1 :=
  let c0_i32_3 : BitVec 32 := 0#32
  let c1_i32_4 : BitVec 32 := 1#32
  let arg34 : BitVec 32 := Scf.iv c0_i32_3 c1_i32_4 k0_t2
  let c3_i32 : BitVec 32 := 3#32
  let v35 : BitVec 32 := Scalar.muli arg34 c3_i32
  let c2_i32_25 : BitVec 32 := 2#32
  let v68 : BitVec 32 := Scalar.addi v35 c2_i32_25
  let c2_i32_27 : BitVec 32 := 2#32
  let v79 : BitVec 32 := Scalar.addi v68 c2_i32_27
  let c25_i32_28 : BitVec 32 := 25#32
  let v80 : BitVec 1 := Scalar.cmpi .slt v79 c25_i32_28
  let v81 : BitVec 32 := Scalar.extui v80
  let c0_i32_29 : BitVec 32 := 0#32
  let v82 : BitVec 1 := Scalar.cmpi .ne v81 c0_i32_29
  v82

def k0_off8 (i : grid0.Coords) (k0_t2 : Fin k0_t2_loop.trips) : Fin 1 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c100000_i32 : BitVec 32 := 100000#32
  let v2 : BitVec 32 := Scalar.muli v1 c100000_i32
  let c0_i32_3 : BitVec 32 := 0#32
  let c1_i32_4 : BitVec 32 := 1#32
  let arg34 : BitVec 32 := Scf.iv c0_i32_3 c1_i32_4 k0_t2
  let c3_i32 : BitVec 32 := 3#32
  let v35 : BitVec 32 := Scalar.muli arg34 c3_i32
  let c2_i32_25 : BitVec 32 := 2#32
  let v68 : BitVec 32 := Scalar.addi v35 c2_i32_25
  let c2_i32_34 : BitVec 32 := 2#32
  let v84 : BitVec 32 := Scalar.addi v68 c2_i32_34
  let c4000_i32_35 : BitVec 32 := 4000#32
  let v85 : BitVec 32 := Scalar.muli v84 c4000_i32_35
  let v86 : BitVec 32 := Scalar.addi v2 v85
  ![v86.toNat]
@[reducible] def k0_t5_loop : Scf.Loop 32 :=
  let c0_i32_30 : BitVec 32 := 0#32
  let c250_i32_31 : BitVec 32 := 250#32
  let v83 : BitVec 32 := Scalar.addi c0_i32_30 c250_i32_31
  let c1_i32_32 : BitVec 32 := 1#32
  ⟨c0_i32_30, v83, c1_i32_32⟩
def k0_off9 (k0_t5 : Fin k0_t5_loop.trips) : Fin 1 → Nat :=
  let c0_i32_35 : BitVec 32 := 0#32
  let c0_i32_30 : BitVec 32 := 0#32
  let c1_i32_32 : BitVec 32 := 1#32
  let arg35 : BitVec 32 := Scf.iv c0_i32_30 c1_i32_32 k0_t5
  let c1_i32_34 : BitVec 32 := 1#32
  let v84 : BitVec 32 := Scalar.muli arg35 c1_i32_34
  let v85 : BitVec 32 := Scalar.addi c0_i32_35 v84
  let c16_i32_36 : BitVec 32 := 16#32
  let v86 : BitVec 32 := Scalar.muli v85 c16_i32_36
  let v87 : Index := Scalar.indexCast v86
  ![v87.toNat]

def k0_chk3 (v119 : IVec S16 32) : Prop :=
  (∀ a x, ((![v119] : Fin 1 → IVec S16 32) a x).toNat < S65536.size a)
theorem k0_idx3_inb : ∀ (v119 : IVec S16 32) (k0_hw3 : k0_chk3 v119), ∀ a x, ((![v119] : Fin 1 → IVec S16 32) a x).toNat < S65536.size a := fun v119 k0_hw3 => k0_hw3
@[reducible] def k0_t6_loop : Scf.Loop 32 :=
  let c0_i32_6 : BitVec 32 := 0#32
  let c250_i32 : BitVec 32 := 250#32
  let v34 : BitVec 32 := Scalar.addi c0_i32_6 c250_i32
  let c1_i32_7 : BitVec 32 := 1#32
  ⟨c0_i32_6, v34, c1_i32_7⟩
def k0_off10 (k0_t6 : Fin k0_t6_loop.trips) : Fin 1 → Nat :=
  let c0_i32_10 : BitVec 32 := 0#32
  let c0_i32_6 : BitVec 32 := 0#32
  let c1_i32_7 : BitVec 32 := 1#32
  let arg34 : BitVec 32 := Scf.iv c0_i32_6 c1_i32_7 k0_t6
  let c1_i32_9 : BitVec 32 := 1#32
  let v35 : BitVec 32 := Scalar.muli arg34 c1_i32_9
  let v36 : BitVec 32 := Scalar.addi c0_i32_10 v35
  let c16_i32_11 : BitVec 32 := 16#32
  let v37 : BitVec 32 := Scalar.muli v36 c16_i32_11
  let v38 : Index := Scalar.indexCast v37
  ![v38.toNat]

def k0_chk4 (v70 : IVec S16 32) : Prop :=
  (∀ a x, ((![v70] : Fin 1 → IVec S16 32) a x).toNat < S65536.size a)
theorem k0_idx4_inb : ∀ (v70 : IVec S16 32) (k0_hw4 : k0_chk4 v70), ∀ a x, ((![v70] : Fin 1 → IVec S16 32) a x).toNat < S65536.size a := fun v70 k0_hw4 => k0_hw4
def k0_off11 (i : grid0.Coords) : Fin 2 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c0_i32_9_r1 : BitVec 32 := 0#32
  ![v1.toNat, 0]
abbrev grid1 : Pipeline.Grid := .none

abbrev stage1_0 : Fin 1 → Memref sig .tc .vmem S32x65536 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))

abbrev stage1_1 : Fin 1 → Memref sig .tc .vmem S5120 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))

abbrev stage1_2 : Fin 1 → Memref sig .tc .vmem S5120 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S3200000 : Shape := ⟨1, ![3200000]⟩
abbrev S_ : Shape := ⟨0, ![]⟩
abbrev S100000 : Shape := ⟨1, ![100000]⟩
abbrev S3200000x1 : Shape := ⟨2, ![3200000, 1]⟩
abbrev S50000 : Shape := ⟨1, ![50000]⟩
abbrev S5000x10 : Shape := ⟨2, ![5000, 10]⟩
abbrev S5000 : Shape := ⟨1, ![5000]⟩
abbrev S10000 : Shape := ⟨1, ![10000]⟩

abbrev nBuf : Space → Nat
  | .hbm => 32
  | .vmem => 0
  | .smem => 0
  | _ => 0

abbrev bufTy : (tb : Table) → Fin (tcTables nBuf tb) → BufTy
  | .hbm, ⟨0, _⟩ => ⟨S3200000, .i32⟩
  | .hbm, ⟨1, _⟩ => ⟨S3200000, .f32⟩
  | .hbm, ⟨2, _⟩ => ⟨S3200000, .f32⟩
  | .hbm, ⟨3, _⟩ => ⟨S3200000, .f32⟩
  | .hbm, ⟨4, _⟩ => ⟨S_, .f32⟩
  | .hbm, ⟨5, _⟩ => ⟨S3200000, .f32⟩
  | .hbm, ⟨6, _⟩ => ⟨S3200000, .i1⟩
  | .hbm, ⟨7, _⟩ => ⟨S3200000, .f32⟩
  | .hbm, ⟨8, _⟩ => ⟨S3200000, .i1⟩
  | .hbm, ⟨9, _⟩ => ⟨S3200000, .i1⟩
  | .hbm, ⟨10, _⟩ => ⟨S3200000, .f32⟩
  | .hbm, ⟨11, _⟩ => ⟨S_, .f32⟩
  | .hbm, ⟨12, _⟩ => ⟨S100000, .f32⟩
  | .hbm, ⟨13, _⟩ => ⟨S3200000, .f32⟩
  | .hbm, ⟨14, _⟩ => ⟨S_, .i32⟩
  | .hbm, ⟨15, _⟩ => ⟨S3200000, .i32⟩
  | .hbm, ⟨16, _⟩ => ⟨S3200000, .i1⟩
  | .hbm, ⟨17, _⟩ => ⟨S_, .i32⟩
  | .hbm, ⟨18, _⟩ => ⟨S3200000, .i32⟩
  | .hbm, ⟨19, _⟩ => ⟨S3200000, .i32⟩
  | .hbm, ⟨20, _⟩ => ⟨S3200000, .i32⟩
  | .hbm, ⟨21, _⟩ => ⟨S3200000x1, .i32⟩
  | .hbm, ⟨22, _⟩ => ⟨S100000, .f32⟩
  | .hbm, ⟨23, _⟩ => ⟨S50000, .f32⟩
  | .hbm, ⟨24, _⟩ => ⟨S5000x10, .f32⟩
  | .hbm, ⟨25, _⟩ => ⟨S_, .f32⟩
  | .hbm, ⟨26, _⟩ => ⟨S5000, .f32⟩
  | .hbm, ⟨27, _⟩ => ⟨S50000, .f32⟩
  | .hbm, ⟨28, _⟩ => ⟨S5000x10, .f32⟩
  | .hbm, ⟨29, _⟩ => ⟨S_, .f32⟩
  | .hbm, ⟨30, _⟩ => ⟨S5000, .f32⟩
  | .hbm, ⟨31, _⟩ => ⟨S10000, .f32⟩
  | _, _ => ⟨S3200000, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst : Ref sig .tc := ⟨.hbm, 11, rfl⟩
abbrev main_v6 : Ref sig .tc := ⟨.hbm, 12, rfl⟩
abbrev main_v7 : Ref sig .tc := ⟨.hbm, 13, rfl⟩
abbrev main_c : Ref sig .tc := ⟨.hbm, 14, rfl⟩
abbrev main_v8 : Ref sig .tc := ⟨.hbm, 15, rfl⟩
abbrev main_v9 : Ref sig .tc := ⟨.hbm, 16, rfl⟩
abbrev main_c_0 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst_1 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_cst_2 : Ref sig .tc := ⟨.hbm, 29, rfl⟩
abbrev main_v20 : Ref sig .tc := ⟨.hbm, 30, rfl⟩
abbrev main_v21 : Ref sig .tc := ⟨.hbm, 31, rfl⟩

abbrev nD : Nat := 1
abbrev τ : Topo := Topo.v7x

variable {F : FTy → Type} [FloatOps F]
-- ==== Proof.Events.lean ====
/-
  The events of the pooling, one at a time: which bucket an event's rate is added to, whether the event is active, what one
  event does to an accumulator of 65536 words, and what a run of consecutive events does. The indexed store of sixteen lanes
  that the kernel makes is the run of its sixteen events, in order (`storeIdx_run`), at any number format.
-/
module

public import proofs.«01_k».proof.Defs
public import proofs.«01_k».proof.Proof.Gen.KernelIdeal
public import proofs.«01_k».proof.Proof.Gen.KernelIdeal.Skeleton

@[expose] public section

noncomputable section

namespace Cert.Proof.Events

open Idealize.ShloMosaic Cert.KernelIdeal Cert.KernelIdeal.Gen

variable {F : FTy → Type} [FloatOps F]

/-! ## One event -/

/-- Event number `n` as an index of the four event arrays. -/
def evIx (n : ℕ) : S3200000.Idx := fun a =>
  ⟨n % 3200000, by obtain rfl : a = 0 := Subsingleton.elim _ _; exact Nat.mod_lt _ (by decide)⟩

theorem evIx_eq (x : S3200000.Idx) : evIx (x 0).val = x := by
  funext a
  obtain rfl : a = 0 := Subsingleton.elim _ _
  exact Fin.ext (Nat.mod_eq_of_lt (x 0).isLt)

/-- The accumulator word an index word names, as the kernel computes it. -/
def posW (w : BitVec 32) : BitVec 32 :=
  let c := IntOp.cmpi .slt w 50000#32
  let n := if c = 1 then w else w - 50000#32
  let q := (n * 52429#32) >>> (19#32).toNat
  q + (if c = 1 then 0#32 else n * 5120#32 + 5120#32 - q * 51200#32)

/-- The same over natural numbers: sum-pooled index `w < 50000` goes to `w / 10`; a max-pooled one, `n` after the first
    50000, to way `n % 10`'s block, bucket `n / 10`. -/
def posN (w : ℕ) : ℕ := if w < 50000 then w / 10 else 5120 * (1 + (w - 50000) % 10) + (w - 50000) / 10

/-- The bit that says an event with the given start and end is active at time `t`. -/
def actW (t s e : F .f32) : BitVec 1 := IntOp.andi (FloatOps.cmpf .ole s t) (FloatOps.cmpf .olt t e)

theorem posW_toNat (w : BitVec 32) (h : w.toNat < 100000) : (posW w).toNat = posN w.toNat := by
  have hs : IntOp.cmpi .slt w 50000#32 = BitVec.ofBool (decide (w.toNat < 50000)) := by
    unfold IntOp.cmpi
    rw [BitVec.slt_eq_decide]
    congr 1
    rw [decide_eq_decide]
    simp only [BitVec.toInt_eq_toNat_cond, BitVec.toNat_ofNat, Nat.reducePow, Nat.reduceMod]
    omega
  unfold posW posN
  simp only [hs]
  have hq : ∀ n : ℕ, n < 50000 → n * 52429 % 4294967296 / 524288 = n / 10 := by
    intro n hn
    rw [Nat.mod_eq_of_lt (by omega)]
    omega
  by_cases hw : w.toNat < 50000
  · simp only [hw, decide_true, BitVec.ofBool_true, ↓reduceIte, BitVec.toNat_add, BitVec.toNat_ushiftRight, BitVec.toNat_mul,
      BitVec.toNat_ofNat, Nat.shiftRight_eq_div_pow, Nat.reducePow, Nat.reduceMod]
    rw [hq _ hw]
    omega
  · have h0 : (BitVec.ofBool false = 1) = False := by decide
    simp only [hw, decide_false, h0, ↓reduceIte, BitVec.toNat_add, BitVec.toNat_sub, BitVec.toNat_ushiftRight, BitVec.toNat_mul,
      BitVec.toNat_ofNat, Nat.shiftRight_eq_div_pow, Nat.reducePow, Nat.reduceMod]
    have hn : (4294967296 - 50000 + w.toNat) % 4294967296 = w.toNat - 50000 := by omega
    rw [hn]
    have hlt : w.toNat - 50000 < 50000 := by omega
    generalize w.toNat - 50000 = n at hlt ⊢
    rw [hq n hlt]
    omega

theorem posN_lt (w : ℕ) (h : w < 100000) : posN w < 65536 := by
  unfold posN; split <;> omega

/-! ## What events do to an accumulator -/

section Run

variable (I : S3200000.Idx → BitVec 32) (R St En : S3200000.Idx → F .f32) (t : F .f32)

/-- Event `n` taken into accumulator `acc`: its rate added to its bucket if it is active. -/
def bump (n : ℕ) (acc : S65536.Idx → F .f32) : S65536.Idx → F .f32 := fun j =>
  if actW t (St (evIx n)) (En (evIx n)) = 1 ∧ (j 0).val = (posW (I (evIx n))).toNat then FloatOps.idxAddf (acc j) (R (evIx n)) else acc j

/-- The `k` events from number `e`, in order. -/
def run (e : ℕ) : ℕ → (S65536.Idx → F .f32) → S65536.Idx → F .f32
  | 0, acc => acc
  | k + 1, acc => bump I R St En t (e + k) (run e k acc)

theorem run_add (e k l : ℕ) (acc : S65536.Idx → F .f32) :
    run I R St En t (e + k) l (run I R St En t e k acc) = run I R St En t e (k + l) acc := by
  induction l with
  | zero => rfl
  | succ l ih => rw [← Nat.add_assoc]; simp only [run]; rw [ih, Nat.add_assoc]

/-- The kernel's indexed store of sixteen lanes, their masks and buckets computed from the sixteen events numbered from
    `e`, takes those events into the accumulator. -/
theorem storeIdx_run (e : ℕ) (tv : Vec F S16 .f32) (vi : Vec F S16 .i32) (vr vs ve : Vec F S16 .f32) (acc : Vec F S65536 .f32)
    (ht : ∀ x, tv x = t) (hi : ∀ x, vi x = I (evIx (e + (x 0).val))) (hr : ∀ x, vr x = R (evIx (e + (x 0).val)))
    (hs : ∀ x, vs x = St (evIx (e + (x 0).val))) (he : ∀ x, ve x = En (evIx (e + (x 0).val)))
    (h : ∀ a x, ((![k0_pay2 (F := F) vi] : Fin 1 → IVec S16 32) a x).toNat < S65536.size a) :
    storeIdx acc ![k0_pay2 (F := F) vi] vr (k0_pay1 tv vs ve) true h = run I R St En t e 16 acc := by
  have key : ∀ n : ℕ, (List.finRange n).foldl (fun g k => bump I R St En t (e + k.val) g) acc = run I R St En t e n acc := by
    intro n
    induction n with
    | zero => simp [run]
    | succ n ih =>
      rw [List.finRange_succ_last, List.foldl_append, List.foldl_map]
      simp only [List.foldl_cons, List.foldl_nil, run]
      rw [← ih]; rfl
  unfold storeIdx
  refine Eq.trans (congrArg (fun f => List.foldl f acc (List.finRange 16)) (funext fun g => funext fun k => ?_)) (key 16)
  funext j
  simp only [bump]
  have hm : k0_pay1 tv vs ve (Shape.ofLane (d := ![16]) k) = actW t (St (evIx (e + k.val))) (En (evIx (e + k.val))) := by
    show actW (tv (Shape.ofLane (d := ![16]) k)) (vs (Shape.ofLane (d := ![16]) k)) (ve (Shape.ofLane (d := ![16]) k)) = _
    rw [ht, hs, he]; rfl
  have hp : k0_pay2 (F := F) vi (Shape.ofLane (d := ![16]) k) = posW (I (evIx (e + k.val))) := by
    show posW (vi (Shape.ofLane (d := ![16]) k)) = _
    rw [hi]; rfl
  have hv : vr (Shape.ofLane (d := ![16]) k) = R (evIx (e + k.val)) := by rw [hr]; rfl
  have hx : ∀ a, (idxAt (s := S65536) (t := S16) ![k0_pay2 (F := F) vi] h (Shape.ofLane (d := ![16]) k) a).val = (posW (I (evIx (e + k.val)))).toNat := by
    intro a; obtain rfl : a = 0 := Subsingleton.elim _ _; rw [← hp]; rfl
  have hall : (∀ a, (j a).val = (idxAt (s := S65536) (t := S16) ![k0_pay2 (F := F) vi] h (Shape.ofLane (d := ![16]) k) a).val)
      ↔ (j 0).val = (posW (I (evIx (e + k.val)))).toNat := by
    constructor
    · intro ha; exact (ha 0).trans (hx 0)
    · intro h0 a; obtain rfl : a = 0 := Subsingleton.elim _ _; exact h0.trans (hx 0).symm
  show (if k0_pay1 tv vs ve (Shape.ofLane (d := ![16]) k) = 1 then _ else g) j = _
  rw [hm]
  by_cases h1 : actW t (St (evIx (e + k.val))) (En (evIx (e + k.val))) = 1
  · rw [if_pos h1]
    by_cases h2 : (j 0).val = (posW (I (evIx (e + k.val)))).toNat
    · rw [if_pos (hall.mpr h2), if_pos trivial, if_pos ⟨h1, h2⟩]
      have hj : idxAt (s := S65536) (t := S16) ![k0_pay2 (F := F) vi] h (Shape.ofLane (d := ![16]) k) = j := by
        funext a; exact Fin.ext ((hall.mpr h2 a).symm)
      rw [hj, hv]; rfl
    · rw [if_neg (fun hh => h2 (hall.mp hh)), if_neg (fun hh => h2 hh.2)]
  · rw [if_neg h1, if_neg (fun hh => h1 hh.1)]

/-- The side condition of the indexed store: sixteen index words below 100000 name accumulator words in range. -/
theorem pos_inb (e : ℕ) (vi : Vec F S16 .i32) (hi : ∀ x, vi x = I (evIx (e + (x 0).val))) (hI : ∀ x, (I x).toNat < 100000) :
    ∀ a x, ((![k0_pay2 (F := F) vi] : Fin 1 → IVec S16 32) a x).toNat < S65536.size a := by
  intro a x
  obtain rfl : a = 0 := Subsingleton.elim _ _
  show (posW (vi x)).toNat < 65536
  rw [hi, posW_toNat _ (hI _)]
  exact posN_lt _ (hI _)

end Run

/-! ## A chunk of an event array -/

/-- The 4000 elements of an event array from number `n`. -/
def chunk {α : Type} (f : S3200000.Idx → α) (n : ℕ) : S4000.Idx → α := fun x => f (evIx (n + (x 0).val))

end Cert.Proof.Events

end
-- ==== Proof.Blocks.lean ====
/-
  The pieces a tile's task is made of, over any memrefs of the right shapes: a buffer held at a value, a chunk's copy issued and
  waited for on one buffer and one semaphore, the four copies of a slot at once, and one trip of the loop over a chunk's groups of
  sixteen events.
-/
module

public import proofs.«01_k».proof.Proof.Events
public import Idealize.ShloMosaic.Lib.SparseCore.Quiescent
public import Idealize.ShloMosaic.Lib.SparseCore.Ops
public import Idealize.ShloMosaic.Lib.SparseCore.Scatter
public import Idealize.ShloMosaic.Lib.StableHlo.Run
public import Idealize.ShloMosaic.Lib.Pipeline.Kit
public import Idealize.ShloMosaic.Lib.Tactic

@[expose] public section

noncomputable section

namespace Cert.Proof.Pool

open Cert.KernelIdeal Cert.KernelIdeal.Gen Cert.Proof.Events

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-- The handshakes' ghost state. -/
abbrev UH : Type := URounds (GSem nD τ sig) ℕ
/-- The proof's ghost state: the handshakes', the staging cells' of the TensorCore call, and the copies' counters. -/
abbrev UU : Type := UH × (UR sig nD τ × Counters)

local notation "𝕄" => MT nD τ sig (HIx 1) (Elt F) ℕ UU ℕ

/-- No variants: every loop of the kernel is counted. -/
abbrev 𝒱₀ : Variants := Variants.none

variable [FloatOps F]

section Thread

variable (d : Dev nD) (c : Fin τ.nSC) (j : Fin τ.nSub)

/-- Memref `b`'s elements are held at share `q`, and reading `b` gives `w`. -/
def At {sp : Space} {s : Shape} {e : EltTy} (q : PosShare TreeShare) (b : Memref sig .scVector sp s e) (w : s.Idx → Elt F e) : sProp 𝕄 :=
  iprop(∃ g : Buf (Elt F) (b.view.loc (V d c j)), ⌜b.view.read (Elt F) g = w⌝ ∗ (b.view.loc (V d c j) ↦[b.view.set]{q} g))

/-- What the thread owes and has waited for: the waits added since `W` are all on cells of its own. -/
def Ow (O : CellTallies nD τ sig (HIx 1)) (W : Waits sig (HIx 1)) : sProp 𝕄 :=
  iprop(∃ W' : Waits sig (HIx 1), ⌜∀ p ∈ W', p ∈ W ∨ p.2 = none⌝ ∗ owes (V d c j) O W')

variable {e : EltTy}

/-- A copy that is not under way: the event array held, the buffer held at anything, the semaphore at zero. -/
def Idle (q : PosShare TreeShare) (a : Memref sig .scVector .hbm S3200000 e) (b : Memref sig .scVector .vmem S4000 e) (sm : DmaSem sig)
    (A : S3200000.Idx → Elt F e) : sProp 𝕄 :=
  iprop(At d c j q a A ∗ (∃ w, At d c j fullShare b w) ∗ semVal (V d c j, .dma sm) 0)

/-- A copy that has arrived: the buffer holds the chunk from event `n`. -/
def Full (q : PosShare TreeShare) (a : Memref sig .scVector .hbm S3200000 e) (b : Memref sig .scVector .vmem S4000 e) (sm : DmaSem sig)
    (A : S3200000.Idx → Elt F e) (n : ℕ) : sProp 𝕄 :=
  iprop(At d c j q a A ∗ At d c j fullShare b (chunk A n) ∗ semVal (V d c j, .dma sm) 0)

/-- A copy under way: it will deliver the chunk from event `n`, and the event array back. -/
def Busy (q : PosShare TreeShare) (a : Memref sig .scVector .hbm S3200000 e) (b : Memref sig .scVector .vmem S4000 e) (sm : DmaSem sig)
    (A : S3200000.Idx → Elt F e) (n : ℕ) : sProp 𝕄 :=
  Transfers.Flight countersEmb (V d c j) (.dma sm) (none : HIx 1) b.view.dmaCredit iprop(At d c j q a A ∗ At d c j fullShare b (chunk A n))

omit [FloatOps F] in
theorem idle_of_full (q : PosShare TreeShare) (a : Memref sig .scVector .hbm S3200000 e) (b : Memref sig .scVector .vmem S4000 e)
    (sm : DmaSem sig) (A : S3200000.Idx → Elt F e) (n : ℕ) : Full d c j q a b sm A n ⊢ (Idle d c j q a b sm A : sProp 𝕄) := by
  unfold Full Idle
  iintro ⟨Ha, Hb, Hs⟩
  isplitl [Ha]; · iexact Ha
  isplitl [Hb]; · iexists _; iexact Hb
  iexact Hs

omit [FloatOps F] in
/-- Reading the 4000 elements of an event array from offset `n` gives the chunk from event `n`. -/
theorem read_chunk (a : Memref sig .scVector .hbm S3200000 e) (o : Fin 1 → ℕ) (ho : ∀ x, o x + S4000.size x ≤ S3200000.size x) (n : ℕ)
    (hn : o = ![n]) (f : a.view.ty.Contents (Elt F)) :
    (a.slice (Rect.unit (s := S3200000) o S4000.size ho) (fun _ => rfl)).view.read (Elt F) f = chunk (a.view.read (Elt F) f) n := by
  subst hn
  funext x
  have hb : n + 4000 ≤ 3200000 := ho 0
  have hx : (x 0).val < 4000 := (x 0).isLt
  have hix : (Rect.unit (s := S3200000) ![n] S4000.size ho).emb x = evIx (n + (x 0).val) := by
    funext y
    obtain rfl : y = 0 := Subsingleton.elim _ _
    refine Fin.ext ?_
    show n + 1 * (x 0).val = (n + (x 0).val) % 3200000
    rw [Nat.mod_eq_of_lt (by omega)]; omega
  show a.view.read (Elt F) f ((Rect.unit (s := S3200000) ![n] S4000.size ho).emb x) = _
  rw [hix]; rfl

variable {α : Type}

/-- A chunk's copy issued. -/
theorem wp_issue (q : PosShare TreeShare) (a : Memref sig .scVector .hbm S3200000 e) (b : Memref sig .scVector .vmem S4000 e)
    (sm : DmaSem sig) (A : S3200000.Idx → Elt F e) (o : Fin 1 → ℕ) (ho : ∀ x, o x + S4000.size x ≤ S3200000.size x) (n : ℕ) (hn : o = ![n])
    {hsrc : (a.slice (Rect.unit (s := S3200000) o S4000.size ho) (fun _ => rfl)).view.WordExact} {hdst : b.view.WordExact}
    {hsem : DmaTarget.Typed (nD := nD) (τ := τ) (p := (V d c j : Thread nD τ).2) .hbm (.dma sm) (.here b)}
    {k : PUnit → Prog (TpuEff nD τ sig (Elt F) Λ₀ (V d c j).2) α} {Q : α → sProp 𝕄} :
    Idle d c j q a b sm A
      ⊢ iprop((Busy d c j q a b sm A n -∗ wp frame (wpE (defs₀ (F := F)) 𝒱₀ (V d c j) none) Set.univ (k ⟨⟩) Q)
          -∗ wp frame (wpE (defs₀ (F := F)) 𝒱₀ (V d c j) none) Set.univ
              (.op (.enqueueDma (a.slice (Rect.unit (s := S3200000) o S4000.size ho) (fun _ => rfl)) (.here b) (.dma sm) hsrc hdst hsem) k) Q) := by
  unfold Idle At
  iintro ⟨⟨%fa, %hfa, Ha⟩, ⟨%w, %fb, -, Hb⟩, Hs⟩ HK
  ihave Ha' := (pointsTo_split_subset (q := q) (f := fa) (S := a.view.set)
    (View.set_slice_subset a.view (Rect.unit (s := S3200000) o S4000.size ho))).1 $$ Ha
  icases Ha' with ⟨Ha, Hr⟩
  iapply (Transfers.wp_dmaLocal countersEmb 𝒱₀ (V d c j) none (none : HIx 1) b.view.dmaCredit rfl
    (View.dmaCredit_pos _ (show 0 < S4000.numel by decide)) (Finset.Subset.refl _)) $$ [Ha Hb Hs]
  · isplitl [Ha]; · iexact Ha
    isplitl [Hb]; · iexact Hb
    iexact Hs
  iintro HF
  iapply HK
  unfold Busy
  ihave HF := (Transfers.Flight_frame (EC := countersEmb)) $$ [Hr HF]
  · isplitl [Hr]; · iexact Hr
    iexact HF
  iapply (Transfers.Flight_mono countersEmb (V d c j) ?_) $$ HF
  iintro ⟨Hr, Hb, Ha⟩
  ihave Ha' := (pointsTo_split_subset (q := q) (f := fa) (S := a.view.set)
    (View.set_slice_subset a.view (Rect.unit (s := S3200000) o S4000.size ho))).2 $$ [Ha Hr]
  · isplitl [Ha]; · iexact Ha
    iexact Hr
  unfold At
  isplitl [Ha']
  · iexists fa; isplitr; · ipureintro; exact hfa
    iexact Ha'
  iexists _; isplitr
  swap; · iexact Hb
  ipureintro
  rw [View.read_write_univ]
  exact (read_chunk a o ho n hn fa).trans (by rw [hfa])

/-- The wait for it. -/
theorem wp_await (q : PosShare TreeShare) (a : Memref sig .scVector .hbm S3200000 e) (b : Memref sig .scVector .vmem S4000 e)
    (sm : DmaSem sig) (A : S3200000.Idx → Elt F e) (n : ℕ) (O : CellTallies nD τ sig (HIx 1)) (W : Waits sig (HIx 1))
    {sw : Memref sig (V d c j : Thread nD τ).2.kind .hbm S4000 e} {hsrc : sw.view.WordExact} {hdst : b.view.WordExact}
    {k : PUnit → Prog (TpuEff nD τ sig (Elt F) Λ₀ (V d c j).2) α} {Q : α → sProp 𝕄} :
    iprop(Transfers.MayWaits (V d c j) (none : HIx 1) O ∗ Busy d c j q a b sm A n ∗ Ow d c j O W)
      ⊢ iprop((iprop(Full d c j q a b sm A n ∗ Ow d c j O W) -∗ wp frame (wpE (defs₀ (F := F)) 𝒱₀ (V d c j) none) Set.univ (k ⟨⟩) Q)
          -∗ wp frame (wpE (defs₀ (F := F)) 𝒱₀ (V d c j) none) Set.univ (.op (.waitDma2 sm sw b hsrc hdst) k) Q) := by
  unfold Busy Ow
  iintro ⟨#Hmw, HF, ⟨%W', %hW, HO⟩⟩ HK
  iapply (Transfers.wp_waitLocalO countersEmb 𝒱₀ (V d c j) none (none : HIx 1) (rfl : b.view.dmaCredit = _)) $$ [HF HO]
  · isplitl [HF]; · iexact HF
    isplitl [HO]; · iexact HO
    iapply (Transfers.MayWaits.elim (SemLoc.dma sm)) $$ Hmw
  iintro ⟨⟨Ha, Hb⟩, Hs, HO⟩
  iapply HK
  unfold Full
  isplitl [Ha Hb Hs]
  · isplitl [Ha]; · iexact Ha
    isplitl [Hb]; · iexact Hb
    iexact Hs
  iexists _; isplitr
  swap; · iexact HO
  ipureintro; intro p hp
  rcases Finset.mem_insert.mp hp with hp | hp
  · exact .inr (hp ▸ rfl)
  · exact hW p hp

end Thread

/-! ## One trip of the loop over a chunk's groups -/

section Trip

variable (d : Dev nD) (c : Fin τ.nSC) (j : Fin τ.nSub)

omit [FloatOps F] in
/-- Loading sixteen elements from offset `16 * g` of a buffer that holds a chunk gives the events numbered from there. -/
theorem load_chunk {e : EltTy} (b : Memref sig .scVector .vmem S4000 e) (A : S3200000.Idx → Elt F e) (n g : ℕ) (o : Fin 1 → ℕ)
    (ho : ∀ x, o x + S16.size x ≤ S4000.size x) (hn : o = ![16 * g]) (f : b.view.ty.Contents (Elt F))
    (hf : b.view.read (Elt F) f = chunk A n) (x : S16.Idx) :
    b.view.readAt (Elt F) (Rect.unit (s := S4000) o S16.size ho).toLoadRect f x = A (evIx (n + 16 * g + (x 0).val)) := by
  subst hn
  show b.view.read (Elt F) f ((Rect.unit (s := S4000) ![16 * g] S16.size ho).emb x) = _
  rw [hf]
  unfold chunk
  have h : ((Rect.unit (s := S4000) ![16 * g] S16.size ho).emb x 0).val = 16 * g + (x 0).val := by
    show 16 * g + 1 * (x 0).val = _
    omega
  rw [h, Nat.add_assoc]

variable (I : S3200000.Idx → BitVec 32) (R St En : S3200000.Idx → F .f32) (t : F .f32)

/-- One trip: the four loads, the check on the buckets, and the indexed store take the group's sixteen events into the
    accumulator. -/
theorem wp_trip (b0 : Memref sig .scVector .vmem S4000 .i32) (b1 b2 b3 : Memref sig .scVector .vmem S4000 .f32)
    (b : Memref sig .scVector .vmem S65536 .f32) (tv : Vec F S16 .f32) (ht : ∀ x, tv x = t) (hI : ∀ x, (I x).toNat < 100000)
    (o : Fin 1 → ℕ) (ho : ∀ x, o x + S16.size x ≤ S4000.size x) (n g : ℕ) (hn : o = ![16 * g]) (a0 : S65536.Idx → F .f32) :
    iprop(At d c j fullShare b0 (chunk (α := Elt F .i32) I n) ∗ At d c j fullShare b1 (chunk (α := Elt F .f32) R n)
        ∗ At d c j fullShare b2 (chunk (α := Elt F .f32) St n) ∗ At d c j fullShare b3 (chunk (α := Elt F .f32) En n)
        ∗ At d c j fullShare b (e := .f32) (run I R St En t n (16 * g) a0))
      ⊢ wp frame (wpE (defs₀ (F := F)) 𝒱₀ (V d c j) none) Set.univ
          (do
            let v39 : Vec F S16 .i32 ← Prog.lift (.load b0 (Rect.unit (s := S4000) o S16.size ho).toLoadRect (View.loadsAt_vmem h_S16))
            let v42 : Vec F S16 .f32 ← Prog.lift (.load b1 (Rect.unit (s := S4000) o S16.size ho).toLoadRect (View.loadsAt_vmem h_S16))
            let v45 : Vec F S16 .f32 ← Prog.lift (.load b2 (Rect.unit (s := S4000) o S16.size ho).toLoadRect (View.loadsAt_vmem h_S16))
            let v48 : Vec F S16 .f32 ← Prog.lift (.load b3 (Rect.unit (s := S4000) o S16.size ho).toLoadRect (View.loadsAt_vmem h_S16))
            have v70 : IVec S16 32 := k0_pay2 (F := F) v39
            have k0_hw4 : k0_chk4 v70 := (← Prog.lift (TpuEff.assume (k0_chk4 v70) (k0_chk4.dec v70))).down
            SparseCore.vectorStoreIdx b ![v70] v42 (k0_pay1 tv v45 v48) true (k0_idx4_inb v70 k0_hw4) (View.stores_vmem_bits_univ h_S65536 rfl)
            pure ⟨⟩ : Prog (TpuEff nD τ sig (Elt F) Λ₀ (.scVector c j)) Unit)
          fun _ => iprop(At d c j fullShare b0 (chunk (α := Elt F .i32) I n) ∗ At d c j fullShare b1 (chunk (α := Elt F .f32) R n)
            ∗ At d c j fullShare b2 (chunk (α := Elt F .f32) St n) ∗ At d c j fullShare b3 (chunk (α := Elt F .f32) En n)
            ∗ At d c j fullShare b (e := .f32) (run I R St En t n (16 * (g + 1)) a0)) := by
  simp only [Prog.lift, Prog.bind_op, Prog.bind_ret, Prog.pure_eq_ret]
  have hsub : ∀ {e : EltTy} (m : Memref sig .scVector .vmem S4000 e),
      m.view.setOn (Rect.unit (s := S4000) o S16.size ho).toLoadRect.set ⊆ m.view.set := fun m =>
    Finset.map_subset_map.mpr (Finset.subset_univ _)
  unfold At
  iintro ⟨⟨%f0, %h0, H0⟩, ⟨%f1, %h1, H1⟩, ⟨%f2, %h2, H2⟩, ⟨%f3, %h3, H3⟩, ⟨%f, %hf, H⟩⟩
  iapply (wp_load 𝒱₀ (V d c j) none Set.univ (m := b0) (hsub b0)) $$ H0; iintro H0
  iapply (wp_load 𝒱₀ (V d c j) none Set.univ (m := b1) (hsub b1)) $$ H1; iintro H1
  iapply (wp_load 𝒱₀ (V d c j) none Set.univ (m := b2) (hsub b2)) $$ H2; iintro H2
  iapply (wp_load 𝒱₀ (V d c j) none Set.univ (m := b3) (hsub b3)) $$ H3; iintro H3
  have e0 := load_chunk b0 (A := I) n g o ho hn f0 h0
  have e1 := load_chunk b1 (A := R) n g o ho hn f1 h1
  have e2 := load_chunk b2 (A := St) n g o ho hn f2 h2
  have e3 := load_chunk b3 (A := En) n g o ho hn f3 h3
  have hchk := pos_inb (F := F) I (n + 16 * g) _ e0 hI
  iapply (wp_assume 𝒱₀ (V d c j) none Set.univ (show k0_chk4 _ from hchk))
  have hset : (b.access (.whole S65536)).set = b.view.set := by
    show (b.view.slice (Rect.whole S65536)).set = _
    rw [View.set_slice, Rect.set_whole]; rfl
  have hread : ∀ f', (b.access (.whole S65536)).read (Elt F) f' = b.view.read (Elt F) f' := fun f' => by
    funext x
    show b.view.read (Elt F) f' ((Rect.whole S65536).emb x) = _
    rw [Rect.emb_whole_apply]
  rw [← hset]
  iapply (SparseCore.wp_vectorStoreIdx 𝒱₀ (V d c j) none Set.univ (base := b)) $$ H; iintro H
  rw [wp_ret]
  imodintro
  isplitl [H0]; · iexists f0; isplitr; · ipureintro; exact h0
                  iexact H0
  isplitl [H1]; · iexists f1; isplitr; · ipureintro; exact h1
                  iexact H1
  isplitl [H2]; · iexists f2; isplitr; · ipureintro; exact h2
                  iexact H2
  isplitl [H3]; · iexists f3; isplitr; · ipureintro; exact h3
                  iexact H3
  iexists _; isplitr
  swap; · iexact H
  ipureintro
  rw [← hread, View.read_write_univ, hread, hf,
    storeIdx_run I R St En t (n + 16 * g) tv _ _ _ _ _ ht e0 e1 e2 e3 hchk, run_add, Nat.mul_succ]

end Trip

end Cert.Proof.Pool

end
-- ==== Proof.Slots.lean ====
/-
  A slot of the ring: four buffers and four semaphores, one pair for each of the event arrays. Its four copies are issued together,
  waited for together, and a loop over the groups of the chunk they brought folds the chunk into the accumulator. Besides, the
  loop that clears the accumulator.
-/
module

public import proofs.«01_k».proof.Proof.Blocks
public import proofs.«01_k».proof.Proof.Gen.KernelIdeal.Skeleton

@[expose] public section

noncomputable section

namespace Cert.Proof.Pool

open Cert.KernelIdeal Cert.KernelIdeal.Gen Cert.Proof.Events

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type}

local notation "𝕄" => MT nD τ sig (HIx 1) (Elt F) ℕ UU ℕ

variable [FloatOps F]

/-- What a tile reads: the four event arrays, what they hold, and the time. -/
structure Src (F : FTy → Type) where
  /-- the buckets -/
  a0 : Memref sig .scVector .hbm S3200000 .i32
  /-- the rates -/
  a1 : Memref sig .scVector .hbm S3200000 .f32
  /-- the starts -/
  a2 : Memref sig .scVector .hbm S3200000 .f32
  /-- the ends -/
  a3 : Memref sig .scVector .hbm S3200000 .f32
  /-- the buckets' values -/
  I : S3200000.Idx → BitVec 32
  /-- the rates' values -/
  R : S3200000.Idx → F .f32
  /-- the starts' values -/
  St : S3200000.Idx → F .f32
  /-- the ends' values -/
  En : S3200000.Idx → F .f32
  /-- the time -/
  t : F .f32

/-- The accumulator after the `k` events from `e` on have been added to `a`. -/
abbrev Src.run (s : Src F) (e k : ℕ) (a : S65536.Idx → F .f32) : S65536.Idx → F .f32 := Events.run s.I s.R s.St s.En s.t e k a

/-- A slot: the share of the event arrays its copies read with, its buffers and its semaphores. -/
structure Slot where
  /-- the share -/
  q : PosShare TreeShare
  /-- the buckets' buffer -/
  b0 : Memref sig .scVector .vmem S4000 .i32
  /-- the rates' buffer -/
  b1 : Memref sig .scVector .vmem S4000 .f32
  /-- the starts' buffer -/
  b2 : Memref sig .scVector .vmem S4000 .f32
  /-- the ends' buffer -/
  b3 : Memref sig .scVector .vmem S4000 .f32
  /-- the buckets' semaphore -/
  s0 : DmaSems sig S_
  /-- the rates' semaphore -/
  s1 : DmaSems sig S_
  /-- the starts' semaphore -/
  s2 : DmaSems sig S_
  /-- the ends' semaphore -/
  s3 : DmaSems sig S_

section Thread

variable (d : Dev nD) (c : Fin τ.nSC) (j : Fin τ.nSub) (s : Src F) (l : Slot)

/-- No copy of the slot is under way. -/
def IdleS : sProp 𝕄 :=
  iprop(Idle d c j l.q s.a0 l.b0 l.s0.sem s.I ∗ Idle d c j l.q s.a1 l.b1 l.s1.sem s.R ∗ Idle d c j l.q s.a2 l.b2 l.s2.sem s.St
    ∗ Idle d c j l.q s.a3 l.b3 l.s3.sem s.En)

/-- The slot holds the chunk from event `n`. -/
def FullS (n : ℕ) : sProp 𝕄 :=
  iprop(Full d c j l.q s.a0 l.b0 l.s0.sem s.I n ∗ Full d c j l.q s.a1 l.b1 l.s1.sem s.R n ∗ Full d c j l.q s.a2 l.b2 l.s2.sem s.St n
    ∗ Full d c j l.q s.a3 l.b3 l.s3.sem s.En n)

/-- The slot's copies of the chunk from event `n` are under way. -/
def BusyS (n : ℕ) : sProp 𝕄 :=
  iprop(Busy d c j l.q s.a0 l.b0 l.s0.sem s.I n ∗ Busy d c j l.q s.a1 l.b1 l.s1.sem s.R n ∗ Busy d c j l.q s.a2 l.b2 l.s2.sem s.St n
    ∗ Busy d c j l.q s.a3 l.b3 l.s3.sem s.En n)

omit [FloatOps F] in
/-- A slot that holds a chunk has no copy under way. -/
theorem idleS_of_fullS (n : ℕ) : FullS d c j s l n ⊢ (IdleS d c j s l : sProp 𝕄) := by
  unfold FullS IdleS
  exact BI.sep_mono (idle_of_full d c j l.q s.a0 l.b0 l.s0.sem s.I n) (BI.sep_mono (idle_of_full d c j l.q s.a1 l.b1 l.s1.sem s.R n)
    (BI.sep_mono (idle_of_full d c j l.q s.a2 l.b2 l.s2.sem s.St n) (idle_of_full d c j l.q s.a3 l.b3 l.s3.sem s.En n)))

/-- The four copies of a slot issued. -/
theorem wp_issueS {α : Type} {Q : α → sProp 𝕄} (o : Fin 1 → ℕ) (ho : ∀ x, o x + S4000.size x ≤ S3200000.size x) (n : ℕ) (hn : o = ![n])
    {h0s : (s.a0.slice (Rect.unit (s := S3200000) o S4000.size ho) (fun _ => rfl)).view.WordExact} {h0d : l.b0.view.WordExact}
    {h0t : DmaTarget.Typed (nD := nD) (τ := τ) (p := (V d c j : Thread nD τ).2) .hbm (.dma l.s0.sem) (.here l.b0)}
    {h1s : (s.a1.slice (Rect.unit (s := S3200000) o S4000.size ho) (fun _ => rfl)).view.WordExact} {h1d : l.b1.view.WordExact}
    {h1t : DmaTarget.Typed (nD := nD) (τ := τ) (p := (V d c j : Thread nD τ).2) .hbm (.dma l.s1.sem) (.here l.b1)}
    {h2s : (s.a2.slice (Rect.unit (s := S3200000) o S4000.size ho) (fun _ => rfl)).view.WordExact} {h2d : l.b2.view.WordExact}
    {h2t : DmaTarget.Typed (nD := nD) (τ := τ) (p := (V d c j : Thread nD τ).2) .hbm (.dma l.s2.sem) (.here l.b2)}
    {h3s : (s.a3.slice (Rect.unit (s := S3200000) o S4000.size ho) (fun _ => rfl)).view.WordExact} {h3d : l.b3.view.WordExact}
    {h3t : DmaTarget.Typed (nD := nD) (τ := τ) (p := (V d c j : Thread nD τ).2) .hbm (.dma l.s3.sem) (.here l.b3)}
    {k : PUnit → Prog (TpuEff nD τ sig (Elt F) Λ₀ (V d c j).2) α} :
    IdleS d c j s l
      ⊢ iprop((BusyS d c j s l n -∗ wp frame (wpE (defs₀ (F := F)) 𝒱₀ (V d c j) none) Set.univ (k ⟨⟩) Q)
          -∗ wp frame (wpE (defs₀ (F := F)) 𝒱₀ (V d c j) none) Set.univ
              (.op (.enqueueDma (s.a0.slice (Rect.unit (s := S3200000) o S4000.size ho) (fun _ => rfl)) (.here l.b0) (.dma l.s0.sem) h0s h0d h0t) fun _ =>
               .op (.enqueueDma (s.a1.slice (Rect.unit (s := S3200000) o S4000.size ho) (fun _ => rfl)) (.here l.b1) (.dma l.s1.sem) h1s h1d h1t) fun _ =>
               .op (.enqueueDma (s.a2.slice (Rect.unit (s := S3200000) o S4000.size ho) (fun _ => rfl)) (.here l.b2) (.dma l.s2.sem) h2s h2d h2t) fun _ =>
               .op (.enqueueDma (s.a3.slice (Rect.unit (s := S3200000) o S4000.size ho) (fun _ => rfl)) (.here l.b3) (.dma l.s3.sem) h3s h3d h3t) k) Q) := by
  unfold IdleS BusyS
  iintro ⟨H0, H1, H2, H3⟩ HK
  iapply (wp_issue d c j l.q s.a0 l.b0 l.s0.sem s.I o ho n hn) $$ H0; iintro H0
  iapply (wp_issue d c j l.q s.a1 l.b1 l.s1.sem s.R o ho n hn) $$ H1; iintro H1
  iapply (wp_issue d c j l.q s.a2 l.b2 l.s2.sem s.St o ho n hn) $$ H2; iintro H2
  iapply (wp_issue d c j l.q s.a3 l.b3 l.s3.sem s.En o ho n hn) $$ H3; iintro H3
  iapply HK
  isplitl [H0]; · iexact H0
  isplitl [H1]; · iexact H1
  isplitl [H2]; · iexact H2
  iexact H3

/-- The four copies of a slot waited for. -/
theorem wp_awaitS {α : Type} {Q : α → sProp 𝕄} (n : ℕ) (O : CellTallies nD τ sig (HIx 1)) (W : Waits sig (HIx 1))
    {w0 : Memref sig (V d c j : Thread nD τ).2.kind .hbm S4000 .i32} {h0s : w0.view.WordExact} {h0d : l.b0.view.WordExact}
    {w1 : Memref sig (V d c j : Thread nD τ).2.kind .hbm S4000 .f32} {h1s : w1.view.WordExact} {h1d : l.b1.view.WordExact}
    {w2 : Memref sig (V d c j : Thread nD τ).2.kind .hbm S4000 .f32} {h2s : w2.view.WordExact} {h2d : l.b2.view.WordExact}
    {w3 : Memref sig (V d c j : Thread nD τ).2.kind .hbm S4000 .f32} {h3s : w3.view.WordExact} {h3d : l.b3.view.WordExact}
    {k : PUnit → Prog (TpuEff nD τ sig (Elt F) Λ₀ (V d c j).2) α} :
    iprop(Transfers.MayWaits (V d c j) (none : HIx 1) O ∗ BusyS d c j s l n ∗ Ow d c j O W)
      ⊢ iprop((iprop(FullS d c j s l n ∗ Ow d c j O W) -∗ wp frame (wpE (defs₀ (F := F)) 𝒱₀ (V d c j) none) Set.univ (k ⟨⟩) Q)
          -∗ wp frame (wpE (defs₀ (F := F)) 𝒱₀ (V d c j) none) Set.univ
              (.op (.waitDma2 l.s0.sem w0 l.b0 h0s h0d) fun _ => .op (.waitDma2 l.s1.sem w1 l.b1 h1s h1d) fun _ =>
               .op (.waitDma2 l.s2.sem w2 l.b2 h2s h2d) fun _ => .op (.waitDma2 l.s3.sem w3 l.b3 h3s h3d) k) Q) := by
  unfold BusyS FullS
  iintro ⟨#Hmw, ⟨H0, H1, H2, H3⟩, HO⟩ HK
  iapply (wp_await d c j l.q s.a0 l.b0 l.s0.sem s.I n O W) $$ [H0 HO]
  · isplitr; · iexact Hmw
    isplitl [H0]; · iexact H0
    iexact HO
  iintro ⟨H0, HO⟩
  iapply (wp_await d c j l.q s.a1 l.b1 l.s1.sem s.R n O W) $$ [H1 HO]
  · isplitr; · iexact Hmw
    isplitl [H1]; · iexact H1
    iexact HO
  iintro ⟨H1, HO⟩
  iapply (wp_await d c j l.q s.a2 l.b2 l.s2.sem s.St n O W) $$ [H2 HO]
  · isplitr; · iexact Hmw
    isplitl [H2]; · iexact H2
    iexact HO
  iintro ⟨H2, HO⟩
  iapply (wp_await d c j l.q s.a3 l.b3 l.s3.sem s.En n O W) $$ [H3 HO]
  · isplitr; · iexact Hmw
    isplitl [H3]; · iexact H3
    iexact HO
  iintro ⟨H3, HO⟩
  iapply HK
  isplitr [HO]
  · isplitl [H0]; · iexact H0
    isplitl [H1]; · iexact H1
    isplitl [H2]; · iexact H2
    iexact H3
  iexact HO

/-- What one trip over the groups of a slot's chunk keeps: the four buffers, and the accumulator `b` with `16 * g` of its events
    added to `a0`. -/
def Trip (b : Memref sig .scVector .vmem S65536 .f32) (n : ℕ) (a0 : S65536.Idx → F .f32) (g : ℕ) : sProp 𝕄 :=
  iprop(At d c j fullShare l.b0 (chunk (α := Elt F .i32) s.I n) ∗ At d c j fullShare l.b1 (chunk (α := Elt F .f32) s.R n)
    ∗ At d c j fullShare l.b2 (chunk (α := Elt F .f32) s.St n) ∗ At d c j fullShare l.b3 (chunk (α := Elt F .f32) s.En n)
    ∗ At d c j fullShare b (e := .f32) (s.run n (16 * g) a0))

/-- The loop over the groups of a slot's chunk: an accumulator with the `m` events from `e` in it becomes one with the chunk's 4000
    as well. -/
theorem wp_groups (b : Memref sig .scVector .vmem S65536 .f32) (e m : ℕ) (a : S65536.Idx → F .f32) (lp : Scf.Loop 32) (hok : lp.OK)
    (hl : lp.trips = 250) (body : Fin lp.trips → Unit → Prog (TpuEff nD τ sig (Elt F) Λ₀ (V d c j).2) Unit)
    (hbody : ∀ (g : Fin lp.trips) (u : Unit), Trip d c j s l b (e + m) (s.run e m a) g.val
      ⊢ wp frame (wpE (defs₀ (F := F)) 𝒱₀ (V d c j) none) Set.univ (body g u)
          fun _ => Trip d c j s l b (e + m) (s.run e m a) (g.val + 1))
    {α : Type} {kk : Unit → Prog (TpuEff nD τ sig (Elt F) Λ₀ (V d c j).2) α} {Q : α → sProp 𝕄} :
    iprop(FullS d c j s l (e + m) ∗ At d c j fullShare b (e := .f32) (s.run e m a))
      ⊢ iprop((iprop(FullS d c j s l (e + m) ∗ At d c j fullShare b (e := .f32) (s.run e (m + 4000) a))
            -∗ wp frame (wpE (defs₀ (F := F)) 𝒱₀ (V d c j) none) Set.univ (kk ⟨⟩) Q)
          -∗ wp frame (wpE (defs₀ (F := F)) 𝒱₀ (V d c j) none) Set.univ (Scf.Loop.for lp hok ⟨⟩ body >>= kk) Q) := by
  unfold FullS Full
  iintro ⟨⟨⟨A0, H0, S0⟩, ⟨A1, H1, S1⟩, ⟨A2, H2, S2⟩, A3, H3, S3⟩, Hb⟩ HK
  iapply (Scf.wp_for_bind frame (wpE (defs₀ (F := F)) 𝒱₀ (V d c j) none) Set.univ lp.lb lp.ub lp.st hok ⟨⟩ body
    (fun g _ => Trip d c j s l b (e + m) (s.run e m a) g) hbody) $$ [H0 H1 H2 H3 Hb]
  · unfold Trip
    isplitl [H0]; · iexact H0
    isplitl [H1]; · iexact H1
    isplitl [H2]; · iexact H2
    isplitl [H3]; · iexact H3
    iexact Hb
  iintro %u HT
  rw [show Scf.trips lp.lb lp.ub lp.st = 250 from hl]
  unfold Trip
  icases HT with ⟨H0, H1, H2, H3, Hb⟩
  iapply HK
  isplitr [Hb]
  · isplitl [A0 H0 S0]
    · isplitl [A0]; · iexact A0
      isplitl [H0]; · iexact H0
      iexact S0
    isplitl [A1 H1 S1]
    · isplitl [A1]; · iexact A1
      isplitl [H1]; · iexact H1
      iexact S1
    isplitl [A2 H2 S2]
    · isplitl [A2]; · iexact A2
      isplitl [H2]; · iexact H2
      iexact S2
    isplitl [A3]; · iexact A3
    isplitl [H3]; · iexact H3
    iexact S3
  rw [show s.run (e + m) (16 * 250) (s.run e m a) = s.run e (m + 4000) a from run_add ..]
  iexact Hb

/-- The accumulator with its first `16 * k` words cleared. -/
def cleared (w : S65536.Idx → F .f32) (k : ℕ) : S65536.Idx → F .f32 :=
  fun x => if (x 0).val < 16 * k then Scalar.ofBits .f32 0#32 else w x

omit [FloatOps F] in
theorem mem_unit16 (o : Fin 1 → ℕ) (ho : ∀ x, o x + S16.size x ≤ S65536.size x) (k : ℕ) (hk : o = ![16 * k]) (y : S65536.Idx) :
    y ∈ Finset.univ.map (Rect.unit (s := S65536) o S16.size ho).emb ↔ 16 * k ≤ (y 0).val ∧ (y 0).val < 16 * k + 16 := by
  subst hk
  rw [Finset.mem_map]
  constructor
  · rintro ⟨x, -, rfl⟩
    have h : ((Rect.unit (s := S65536) ![16 * k] S16.size ho).emb x 0).val = 16 * k + 1 * (x 0).val := rfl
    have hx : (x 0).val < 16 := (x 0).isLt
    omega
  · rintro ⟨h1, h2⟩
    refine ⟨fun a => ⟨(y 0).val - 16 * k, ?_⟩, Finset.mem_univ _, ?_⟩
    · obtain rfl : a = 0 := Subsingleton.elim _ _
      show _ < 16
      omega
    · funext a
      obtain rfl : a = 0 := Subsingleton.elim _ _
      refine Fin.ext ?_
      show 16 * k + 1 * ((y 0).val - 16 * k) = (y 0).val
      omega

/-- One trip of the clearing loop. -/
theorem wp_clear (b : Memref sig .scVector .vmem S65536 .f32) (w : S65536.Idx → F .f32)
    (o : Fin 1 → ℕ) (ho : ∀ x, o x + S16.size x ≤ S65536.size x) (k : ℕ) (hk : o = ![16 * k]) :
    At d c j fullShare b (e := .f32) (cleared w k)
      ⊢ wp frame (wpE (defs₀ (F := F)) 𝒱₀ (V d c j) none) Set.univ
          (do
            let v39 : Vec F S16 .f32 ← Prog.lift (.load b (Rect.unit (s := S65536) o S16.size ho).toLoadRect (View.loadsAt_vmem h_S16))
            Prog.lift (.store b (Rect.unit (s := S65536) o S16.size ho) (k0_pay5 (F := F)) Finset.univ (View.stores_vmem_bits_univ h_S16 rfl) (.inl rfl))
            pure ⟨⟩ : Prog (TpuEff nD τ sig (Elt F) Λ₀ (.scVector c j)) Unit)
          fun _ => At d c j fullShare b (e := .f32) (cleared w (k + 1)) := by
  simp only [Prog.lift, Prog.bind_op, Prog.bind_ret, Prog.pure_eq_ret]
  have hsub : b.view.setOn (Rect.unit (s := S65536) o S16.size ho).toLoadRect.set ⊆ b.view.set :=
    Finset.map_subset_map.mpr (Finset.subset_univ _)
  unfold At
  iintro ⟨%f, %hf, H⟩
  iapply (wp_load 𝒱₀ (V d c j) none Set.univ (m := b) hsub) $$ H
  iintro H
  iapply (wp_store 𝒱₀ (V d c j) none Set.univ (m := b) (View.set_slice_subset b.view (Rect.unit (s := S65536) o S16.size ho))) $$ H
  iintro H
  rw [wp_ret]
  imodintro
  iexists _; isplitr
  swap; · iexact H
  ipureintro
  funext y
  by_cases hy : y ∈ Finset.univ.map (Rect.unit (s := S65536) o S16.size ho).emb
  · have h2 := (mem_unit16 o ho k hk y).mp hy
    have h3 : (y 0).val < 16 * (k + 1) := by omega
    obtain ⟨x, hx, rfl⟩ := Finset.mem_map.mp hy
    refine (View.read_slice_write_emb (v := b.view) (Rect.unit (s := S65536) o S16.size ho) f _ hx).trans ?_
    exact (if_pos h3).symm
  · refine (View.read_slice_write_of_not_mem (v := b.view) (Rect.unit (s := S65536) o S16.size ho) f _ _ hy).trans ?_
    rw [hf]
    have h2 : ¬ (16 * k ≤ (y 0).val ∧ (y 0).val < 16 * k + 16) := fun h => hy ((mem_unit16 o ho k hk y).mpr h)
    unfold cleared
    by_cases h : (y 0).val < 16 * k
    · rw [if_pos h, if_pos (show (y 0).val < 16 * (k + 1) by omega)]
    · rw [if_neg h, if_neg (show ¬ (y 0).val < 16 * (k + 1) by omega)]

end Thread

end Cert.Proof.Pool

end
-- ==== Proof.Tile.lean ====
/-
  A tile's task, at any pair of SparseCore and tile and over any memrefs: the accumulator is cleared, the 25 chunks of the tile's
  100000 events pass through the three slots of the ring, and the accumulator is copied to the tile's row of the partial sums.
  Every statement carries what the accumulator holds.
-/
module

public import proofs.«01_k».proof.Proof.Slots

@[expose] public section

noncomputable section

namespace Cert.Proof.Pool

open Cert.KernelIdeal Cert.KernelIdeal.Gen Cert.Proof.Events

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type}

local notation "𝕄" => MT nD τ sig (HIx 1) (Elt F) ℕ UU ℕ

variable [FloatOps F]

/-! ## The offsets and conditions, in closed form -/

/-- The first of a tile's events. -/
def base (i : grid0.Coords) : ℕ := 1600000 * (i 0).val + 100000 * (i 1).val

theorem off1_0 (i : grid0.Coords) : k0_off1 i 0#32 = ![base i] := by
  have h : ∀ i : grid0.Coords, k0_off1 i 0#32 = ![1600000 * (i 0).val + 100000 * (i 1).val] := by decide +kernel
  exact h i

theorem off1_1 (i : grid0.Coords) : k0_off1 i 4000#32 = ![base i + 4000] := by
  have h : ∀ i : grid0.Coords, k0_off1 i 4000#32 = ![1600000 * (i 0).val + 100000 * (i 1).val + 4000] := by decide +kernel
  exact h i

theorem cond1 : ∀ k : Fin k0_t2_loop.trips, k0_cond1 k = 1#1 := by decide +kernel
theorem cond2 : ∀ k : Fin k0_t2_loop.trips, k0_cond2 k = 1#1 := by decide +kernel
theorem cond3 : ∀ k : Fin k0_t2_loop.trips, k0_cond3 k = 1#1 ↔ k.val < 7 := by decide +kernel

/-- The word the accumulator is cleared to. -/
abbrev zero : F .f32 := Scalar.ofBits .f32 0#32
/-- The cleared accumulator. -/
abbrev zeros : S65536.Idx → F .f32 := fun _ => zero

section Copy

variable (d : Dev nD) (c : Fin τ.nSC) (j : Fin τ.nSub)

omit [FloatOps F] in
/-- What holding a memref at a value says. -/
theorem at_open {d : Dev nD} {c : Fin τ.nSC} {j : Fin τ.nSub} {sp : Space} {sh : Shape} {e : EltTy} (q : PosShare TreeShare)
    (b : Memref sig .scVector sp sh e) (w : sh.Idx → Elt F e) :
    At d c j q b w ⊢ (iprop(∃ g : Buf (Elt F) (b.view.loc (V d c j)), ⌜b.view.read (Elt F) g = w⌝ ∗ (b.view.loc (V d c j) ↦[b.view.set]{q} g)) : sProp 𝕄) := by
  unfold At; exact Entails.rfl

/-- A copy of one memref onto another, issued and waited for. -/
theorem wp_copy {sp sp' : Space} {sh : Shape} {e : EltTy} (q : PosShare TreeShare) (a : Memref sig .scVector sp sh e)
    (b : Memref sig .scVector sp' sh e) (sm : DmaSem sig) (w : sh.Idx → Elt F e) (hn : 0 < sh.numel)
    (O : CellTallies nD τ sig (HIx 1)) (W : Waits sig (HIx 1))
    {hsrc : a.view.WordExact} {hdst : b.view.WordExact}
    {hsem : DmaTarget.Typed (nD := nD) (τ := τ) (p := (V d c j : Thread nD τ).2) sp (.dma sm) (.here b)}
    {hsrc' : a.view.WordExact} {hdst' : b.view.WordExact} {α : Type}
    {k : PUnit → Prog (TpuEff nD τ sig (Elt F) Λ₀ (V d c j).2) α} {Q : α → sProp 𝕄} :
    iprop(Transfers.MayWaits (V d c j) (none : HIx 1) O ∗ At d c j q a w ∗ (∃ w', At d c j fullShare b w') ∗ semVal (V d c j, .dma sm) 0
        ∗ Ow d c j O W)
      ⊢ iprop((iprop(At d c j q a w ∗ At d c j fullShare b w ∗ semVal (V d c j, .dma sm) 0 ∗ Ow d c j O W)
            -∗ wp frame (wpE (defs₀ (F := F)) 𝒱₀ (V d c j) none) Set.univ (k ⟨⟩) Q)
          -∗ wp frame (wpE (defs₀ (F := F)) 𝒱₀ (V d c j) none) Set.univ
              (.op (.enqueueDma a (.here b) (.dma sm) hsrc hdst hsem) fun _ => .op (.waitDma2 sm a b hsrc' hdst') k) Q) := by
  unfold At Ow
  iintro ⟨#Hmw, ⟨%fa, %hfa, Ha⟩, ⟨%w', %fb, -, Hb⟩, Hs, ⟨%W', %hW, HO⟩⟩ HK
  iapply (Transfers.wp_dmaLocal countersEmb 𝒱₀ (V d c j) none (none : HIx 1) b.view.dmaCredit rfl
    (View.dmaCredit_pos _ hn) (Finset.Subset.refl _)) $$ [Ha Hb Hs]
  · isplitl [Ha]; · iexact Ha
    isplitl [Hb]; · iexact Hb
    iexact Hs
  iintro HF
  iapply (Transfers.wp_waitLocalO countersEmb 𝒱₀ (V d c j) none (none : HIx 1) (rfl : b.view.dmaCredit = _)) $$ [HF HO]
  · isplitl [HF]; · iexact HF
    isplitl [HO]; · iexact HO
    iapply (Transfers.MayWaits.elim (SemLoc.dma sm)) $$ Hmw
  iintro ⟨⟨Hb, Ha⟩, Hs, HO⟩
  iapply HK
  isplitl [Ha]
  · iexists fa; isplitr; · ipureintro; exact hfa
    iexact Ha
  isplitl [Hb]
  · iexists _; isplitr
    swap; · iexact Hb
    ipureintro
    rw [View.read_write_univ]
    exact hfa
  isplitl [Hs]; · iexact Hs
  iexists _; isplitr
  swap; · iexact HO
  ipureintro; intro p hp
  rcases Finset.mem_insert.mp hp with hp | hp
  · exact .inr (hp ▸ rfl)
  · exact hW p hp

end Copy

section Tile

variable (d : Dev nD) (i : grid0.Coords) (s : Src F) (l0 l1 l2 : Slot)
variable (m6 : Memref sig .scVector .hbm S16 .f32) (m7 : Memref sig .scVector .hbm S32x65536 .f32)
  (acc : Memref sig .scVector .vmem S65536 .f32) (m21 : Memref sig .scVector .vmem S16 .f32) (r0 r1 : DmaSems sig S_)
variable (h2 : s.a0.IsWhole) (h3 : s.a1.IsWhole) (h4 : s.a2.IsWhole) (h5 : s.a3.IsWhole) (h6 : m6.IsWhole) (h7 : m7.IsWhole) (h8 : l0.b0.IsWhole) (h9 : l1.b0.IsWhole) (h10 : l2.b0.IsWhole) (h11 : l0.b1.IsWhole) (h12 : l1.b1.IsWhole) (h13 : l2.b1.IsWhole) (h14 : l0.b2.IsWhole) (h15 : l1.b2.IsWhole) (h16 : l2.b2.IsWhole) (h17 : l0.b3.IsWhole) (h18 : l1.b3.IsWhole) (h19 : l2.b3.IsWhole) (h20 : acc.IsWhole) (h21 : m21.IsWhole)
variable (hI : ∀ x, (s.I x).toNat < 100000) (v2 : BitVec 32) (tv : Vec F S16 .f32) (ht : ∀ x, tv x = s.t)

/-- The tile's SparseCore. -/
abbrev core : Fin τ.nSC := (i 0).castLE hcore0
/-- The tile's number on it. -/
abbrev tile : Fin τ.nSub := (i 1).castLE hsub0

include hI ht

/-- The groups of a chunk in slot 0, in loop 3. -/
theorem wp_t3 (e m : ℕ) (a : S65536.Idx → F .f32) (c0 c1 : BitVec 32) (k2 : Fin k0_t2_loop.trips) {α : Type}
    {kk : Unit → Prog (TpuEff nD τ sig (Elt F) Λ₀ (V d (core i) (tile i)).2) α} {Q : α → sProp 𝕄} :
    iprop(FullS d (core i) (tile i) s l0 (e + m) ∗ At d (core i) (tile i) fullShare acc (e := .f32) (s.run e m a))
      ⊢ iprop((iprop(FullS d (core i) (tile i) s l0 (e + m) ∗ At d (core i) (tile i) fullShare acc (e := .f32) (s.run e (m + 4000) a))
            -∗ wp frame (wpE (defs₀ (F := F)) 𝒱₀ (V d (core i) (tile i)) none) Set.univ (kk ⟨⟩) Q)
          -∗ wp frame (wpE (defs₀ (F := F)) 𝒱₀ (V d (core i) (tile i)) none) Set.univ
              (Scf.Loop.for k0_t3_loop k0_t3_ok ⟨⟩ (k0_t3_body i s.a0 h2 s.a1 h3 s.a2 h4 s.a3 h5 m6 h6 m7 h7 l0.b0 h8 l1.b0 h9 l2.b0 h10 l0.b1 h11 l1.b1 h12 l2.b1 h13 l0.b2 h14 l1.b2 h15 l2.b2 h16 l0.b3 h17 l1.b3 h18 l2.b3 h19 acc h20 m21 h21 l0.s0 l0.s1 l0.s2 l0.s3 l1.s0 l1.s1 l1.s2 l1.s3 l2.s0 l2.s1 l2.s2 l2.s3 r0 r1 v2 tv c0 c1 k2) >>= kk) Q) :=
  wp_groups d (core i) (tile i) s l0 acc e m a k0_t3_loop k0_t3_ok (by decide) _ fun g _ =>
    wp_trip d (core i) (tile i) s.I s.R s.St s.En s.t l0.b0 l0.b1 l0.b2 l0.b3 acc tv ht hI (k0_off5 g) (k0_off5_inb g)
      (e + m) g.val (k0_off5_eq g) (s.run e m a)

/-- The groups of a chunk in slot 1, in loop 4. -/
theorem wp_t4 (e m : ℕ) (a : S65536.Idx → F .f32) {α : Type}
    {kk : Unit → Prog (TpuEff nD τ sig (Elt F) Λ₀ (V d (core i) (tile i)).2) α} {Q : α → sProp 𝕄} :
    iprop(FullS d (core i) (tile i) s l1 (e + m) ∗ At d (core i) (tile i) fullShare acc (e := .f32) (s.run e m a))
      ⊢ iprop((iprop(FullS d (core i) (tile i) s l1 (e + m) ∗ At d (core i) (tile i) fullShare acc (e := .f32) (s.run e (m + 4000) a))
            -∗ wp frame (wpE (defs₀ (F := F)) 𝒱₀ (V d (core i) (tile i)) none) Set.univ (kk ⟨⟩) Q)
          -∗ wp frame (wpE (defs₀ (F := F)) 𝒱₀ (V d (core i) (tile i)) none) Set.univ
              (Scf.Loop.for k0_t4_loop k0_t4_ok ⟨⟩ (k0_t4_body i s.a0 h2 s.a1 h3 s.a2 h4 s.a3 h5 m6 h6 m7 h7 l0.b0 h8 l1.b0 h9 l2.b0 h10 l0.b1 h11 l1.b1 h12 l2.b1 h13 l0.b2 h14 l1.b2 h15 l2.b2 h16 l0.b3 h17 l1.b3 h18 l2.b3 h19 acc h20 m21 h21 l0.s0 l0.s1 l0.s2 l0.s3 l1.s0 l1.s1 l1.s2 l1.s3 l2.s0 l2.s1 l2.s2 l2.s3 r0 r1 tv) >>= kk) Q) :=
  wp_groups d (core i) (tile i) s l1 acc e m a k0_t4_loop k0_t4_ok (by decide) _ fun g _ =>
    wp_trip d (core i) (tile i) s.I s.R s.St s.En s.t l1.b0 l1.b1 l1.b2 l1.b3 acc tv ht hI (k0_off7 g) (k0_off7_inb g)
      (e + m) g.val (k0_off7_eq g) (s.run e m a)

/-- The groups of a chunk in slot 2, in loop 5. -/
theorem wp_t5 (e m : ℕ) (a : S65536.Idx → F .f32) {α : Type}
    {kk : Unit → Prog (TpuEff nD τ sig (Elt F) Λ₀ (V d (core i) (tile i)).2) α} {Q : α → sProp 𝕄} :
    iprop(FullS d (core i) (tile i) s l2 (e + m) ∗ At d (core i) (tile i) fullShare acc (e := .f32) (s.run e m a))
      ⊢ iprop((iprop(FullS d (core i) (tile i) s l2 (e + m) ∗ At d (core i) (tile i) fullShare acc (e := .f32) (s.run e (m + 4000) a))
            -∗ wp frame (wpE (defs₀ (F := F)) 𝒱₀ (V d (core i) (tile i)) none) Set.univ (kk ⟨⟩) Q)
          -∗ wp frame (wpE (defs₀ (F := F)) 𝒱₀ (V d (core i) (tile i)) none) Set.univ
              (Scf.Loop.for k0_t5_loop k0_t5_ok ⟨⟩ (k0_t5_body i s.a0 h2 s.a1 h3 s.a2 h4 s.a3 h5 m6 h6 m7 h7 l0.b0 h8 l1.b0 h9 l2.b0 h10 l0.b1 h11 l1.b1 h12 l2.b1 h13 l0.b2 h14 l1.b2 h15 l2.b2 h16 l0.b3 h17 l1.b3 h18 l2.b3 h19 acc h20 m21 h21 l0.s0 l0.s1 l0.s2 l0.s3 l1.s0 l1.s1 l1.s2 l1.s3 l2.s0 l2.s1 l2.s2 l2.s3 r0 r1 tv) >>= kk) Q) :=
  wp_groups d (core i) (tile i) s l2 acc e m a k0_t5_loop k0_t5_ok (by decide) _ fun g _ =>
    wp_trip d (core i) (tile i) s.I s.R s.St s.En s.t l2.b0 l2.b1 l2.b2 l2.b3 acc tv ht hI (k0_off9 g) (k0_off9_inb g)
      (e + m) g.val (k0_off9_eq g) (s.run e m a)

/-- The first part of a trip of the ring: slot 0's chunk is folded in, slot 1's has arrived, and slots 0 and 2 have been given new ones. -/
theorem wp_part1 (O : CellTallies nD τ sig (HIx 1)) (W : Waits sig (HIx 1)) (k : Fin k0_t2_loop.trips) (a : S65536.Idx → F .f32)
    {α : Type} {kk : (Σ' (v35 : BitVec 32), BitVec 32) → Prog (TpuEff nD τ sig (Elt F) Λ₀ (V d (core i) (tile i)).2) α} {Q : α → sProp 𝕄} :
    iprop(Transfers.MayWaits (V d (core i) (tile i)) (none : HIx 1) O ∗ BusyS d (core i) (tile i) s l0 (base i + 12000 * k.val) ∗ BusyS d (core i) (tile i) s l1 (base i + (12000 * k.val + 4000))
        ∗ IdleS d (core i) (tile i) s l2 ∗ At d (core i) (tile i) fullShare acc (e := .f32) (s.run (base i) (12000 * k.val) a) ∗ Ow d (core i) (tile i) O W)
      ⊢ iprop((∀ r, iprop(BusyS d (core i) (tile i) s l0 (base i + 12000 * (k.val + 1)) ∗ FullS d (core i) (tile i) s l1 (base i + (12000 * k.val + 4000))
            ∗ BusyS d (core i) (tile i) s l2 (base i + (12000 * k.val + 8000)) ∗ At d (core i) (tile i) fullShare acc (e := .f32) (s.run (base i) (12000 * k.val + 4000) a) ∗ Ow d (core i) (tile i) O W)
            -∗ wp frame (wpE (defs₀ (F := F)) 𝒱₀ (V d (core i) (tile i)) none) Set.univ (kk r) Q)
          -∗ wp frame (wpE (defs₀ (F := F)) 𝒱₀ (V d (core i) (tile i)) none) Set.univ
              (k0_part1 i s.a0 h2 s.a1 h3 s.a2 h4 s.a3 h5 m6 h6 m7 h7 l0.b0 h8 l1.b0 h9 l2.b0 h10 l0.b1 h11 l1.b1 h12 l2.b1 h13 l0.b2 h14 l1.b2 h15 l2.b2 h16 l0.b3 h17 l1.b3 h18 l2.b3 h19 acc h20 m21 h21 l0.s0 l0.s1 l0.s2 l0.s3 l1.s0 l1.s1 l1.s2 l1.s3 l2.s0 l2.s1 l2.s2 l2.s3 r0 r1 v2 tv 0#32 1#32 k >>= kk) Q) := by
  rw [k0_part1_eq_skeleton]
  unfold k0_part1_skel
  simp only [dif_pos (cond1 k), dif_pos (cond2 k), Prog.lift, Prog.bind_op, Prog.bind_ret, Prog.pure_eq_ret, Prog.bind_assoc]
  iintro ⟨#Hmw, H0, H1, H2, Ha, HO⟩ HK
  iapply (wp_awaitS d (core i) (tile i) s l0 (base i + 12000 * k.val) O W) $$ [H0 HO]
  · isplitr; · iexact Hmw
    isplitl [H0]; · iexact H0
    iexact HO
  iintro ⟨H0, HO⟩
  iapply (wp_issueS d (core i) (tile i) s l2 (k0_off4 i k) (k0_off4_inb i k (cond1 k)) (base i + (12000 * k.val + 8000))
    ((k0_off4_eq i k).trans (by unfold base; simp only [Nat.add_assoc]))) $$ H2
  iintro H2
  iapply (wp_t3 d i s l0 l1 l2 m6 m7 acc m21 r0 r1 h2 h3 h4 h5 h6 h7 h8 h9 h10 h11 h12 h13 h14 h15 h16 h17 h18 h19 h20 h21 hI v2 tv ht (base i) (12000 * k.val) a 0#32 1#32 k) $$ [H0 Ha]
  · isplitl [H0]; · iexact H0
    iexact Ha
  iintro ⟨H0, Ha⟩
  iapply (wp_awaitS d (core i) (tile i) s l1 (base i + (12000 * k.val + 4000)) O W) $$ [H1 HO]
  · isplitr; · iexact Hmw
    isplitl [H1]; · iexact H1
    iexact HO
  iintro ⟨H1, HO⟩
  ihave H0 := (idleS_of_fullS d (core i) (tile i) s l0 (base i + 12000 * k.val)) $$ H0
  iapply (wp_issueS d (core i) (tile i) s l0 (k0_off6 i k) (k0_off6_inb i k (cond2 k)) (base i + 12000 * (k.val + 1))
    ((k0_off6_eq i k).trans (by unfold base; rw [Nat.mul_succ]; simp only [Nat.add_assoc]))) $$ H0
  iintro H0
  iapply HK
  isplitl [H0]; · iexact H0
  isplitl [H1]; · iexact H1
  isplitl [H2]; · iexact H2
  isplitl [Ha]; · iexact Ha
  iexact HO

/-- The ring before trip `k`: chunk `3k` is on its way to slot 0, chunk `3k + 1` to slot 1 unless this is after the last trip, and the
    accumulator holds the events of the chunks before. -/
def Ring (O : CellTallies nD τ sig (HIx 1)) (W : Waits sig (HIx 1)) (a : S65536.Idx → F .f32) (k : ℕ) : sProp 𝕄 :=
  iprop(Transfers.MayWaits (V d (core i) (tile i)) (none : HIx 1) O ∗ BusyS d (core i) (tile i) s l0 (base i + 12000 * k)
    ∗ (if k < 8 then BusyS d (core i) (tile i) s l1 (base i + (12000 * k + 4000)) else IdleS d (core i) (tile i) s l1)
    ∗ IdleS d (core i) (tile i) s l2 ∗ At d (core i) (tile i) fullShare acc (e := .f32) (s.run (base i) (12000 * k) a) ∗ Ow d (core i) (tile i) O W)

/-- One trip of the ring. -/
theorem wp_ring (O : CellTallies nD τ sig (HIx 1)) (W : Waits sig (HIx 1)) (a : S65536.Idx → F .f32) (k : Fin k0_t2_loop.trips) (u : Unit) :
    Ring d i s l0 l1 l2 acc O W a k.val
      ⊢ wp frame (wpE (defs₀ (F := F)) 𝒱₀ (V d (core i) (tile i)) none) Set.univ (k0_t2_body i s.a0 h2 s.a1 h3 s.a2 h4 s.a3 h5 m6 h6 m7 h7 l0.b0 h8 l1.b0 h9 l2.b0 h10 l0.b1 h11 l1.b1 h12 l2.b1 h13 l0.b2 h14 l1.b2 h15 l2.b2 h16 l0.b3 h17 l1.b3 h18 l2.b3 h19 acc h20 m21 h21 l0.s0 l0.s1 l0.s2 l0.s3 l1.s0 l1.s1 l1.s2 l1.s3 l2.s0 l2.s1 l2.s2 l2.s3 r0 r1 v2 tv k u) fun _ => Ring d i s l0 l1 l2 acc O W a (k.val + 1) := by
  have hk : k.val < 8 := k.isLt
  unfold Ring k0_t2_body
  rw [if_pos hk]
  iintro ⟨#Hmw, H0, H1, H2, Ha, HO⟩
  iapply (wp_part1 d i s l0 l1 l2 m6 m7 acc m21 r0 r1 h2 h3 h4 h5 h6 h7 h8 h9 h10 h11 h12 h13 h14 h15 h16 h17 h18 h19 h20 h21 hI v2 tv ht O W k a) $$ [H0 H1 H2 Ha HO]
  · isplitr; · iexact Hmw
    isplitl [H0]; · iexact H0
    isplitl [H1]; · iexact H1
    isplitl [H2]; · iexact H2
    isplitl [Ha]; · iexact Ha
    iexact HO
  iintro %r ⟨H0, H1, H2, Ha, HO⟩
  rcases r with ⟨ra, rb⟩
  iapply (wp_t4 d i s l0 l1 l2 m6 m7 acc m21 r0 r1 h2 h3 h4 h5 h6 h7 h8 h9 h10 h11 h12 h13 h14 h15 h16 h17 h18 h19 h20 h21 hI tv ht (base i) (12000 * k.val + 4000) a) $$ [H1 Ha]
  · isplitl [H1]; · iexact H1
    iexact Ha
  iintro ⟨H1, Ha⟩
  simp only [Prog.lift, Prog.bind_op, Prog.bind_ret, Prog.pure_eq_ret, Prog.bind_assoc]
  iapply (wp_awaitS d (core i) (tile i) s l2 (base i + (12000 * k.val + 8000)) O W) $$ [H2 HO]
  · isplitr; · iexact Hmw
    isplitl [H2]; · iexact H2
    iexact HO
  iintro ⟨H2, HO⟩
  ihave H1 := (idleS_of_fullS d (core i) (tile i) s l1 (base i + (12000 * k.val + 4000))) $$ H1
  by_cases hk7 : k.val < 7
  · have hc := (cond3 k).mpr hk7
    simp only [dif_pos hc, Prog.lift, Prog.bind_op, Prog.bind_ret, Prog.pure_eq_ret, Prog.bind_assoc]
    iapply (wp_issueS d (core i) (tile i) s l1 (k0_off8 i k) (k0_off8_inb i k hc) (base i + (12000 * (k.val + 1) + 4000))
      ((k0_off8_eq i k).trans (by unfold base; rw [Nat.mul_succ]; simp only [Nat.add_assoc]))) $$ H1
    iintro H1
    iapply (wp_t5 d i s l0 l1 l2 m6 m7 acc m21 r0 r1 h2 h3 h4 h5 h6 h7 h8 h9 h10 h11 h12 h13 h14 h15 h16 h17 h18 h19 h20 h21 hI tv ht (base i) (12000 * k.val + 8000) a) $$ [H2 Ha]
    · isplitl [H2]; · iexact H2
      iexact Ha
    iintro ⟨H2, Ha⟩
    rw [wp_ret]
    imodintro
    rw [if_pos (show k.val + 1 < 8 by omega)]
    isplitr; · iexact Hmw
    isplitl [H0]; · iexact H0
    isplitl [H1]; · iexact H1
    isplitl [H2]; · iapply (idleS_of_fullS d (core i) (tile i) s l2 (base i + (12000 * k.val + 8000))) $$ H2
    isplitl [Ha]; · iexact Ha
    iexact HO
  · have hc : ¬ k0_cond3 k = 1#1 := fun h => hk7 ((cond3 k).mp h)
    simp only [dif_neg hc, Prog.bind_ret]
    iapply (wp_t5 d i s l0 l1 l2 m6 m7 acc m21 r0 r1 h2 h3 h4 h5 h6 h7 h8 h9 h10 h11 h12 h13 h14 h15 h16 h17 h18 h19 h20 h21 hI tv ht (base i) (12000 * k.val + 8000) a) $$ [H2 Ha]
    · isplitl [H2]; · iexact H2
      iexact Ha
    iintro ⟨H2, Ha⟩
    rw [wp_ret]
    imodintro
    rw [if_neg (show ¬ k.val + 1 < 8 by omega)]
    isplitr; · iexact Hmw
    isplitl [H0]; · iexact H0
    isplitl [H1]; · iexact H1
    isplitl [H2]; · iapply (idleS_of_fullS d (core i) (tile i) s l2 (base i + (12000 * k.val + 8000))) $$ H2
    isplitl [Ha]; · iexact Ha
    iexact HO

/-- The groups of a chunk in slot 0, in loop 6. -/
theorem wp_t6 (e m : ℕ) (a : S65536.Idx → F .f32) {α : Type}
    {kk : Unit → Prog (TpuEff nD τ sig (Elt F) Λ₀ (V d (core i) (tile i)).2) α} {Q : α → sProp 𝕄} :
    iprop(FullS d (core i) (tile i) s l0 (e + m) ∗ At d (core i) (tile i) fullShare acc (e := .f32) (s.run e m a))
      ⊢ iprop((iprop(FullS d (core i) (tile i) s l0 (e + m) ∗ At d (core i) (tile i) fullShare acc (e := .f32) (s.run e (m + 4000) a))
            -∗ wp frame (wpE (defs₀ (F := F)) 𝒱₀ (V d (core i) (tile i)) none) Set.univ (kk ⟨⟩) Q)
          -∗ wp frame (wpE (defs₀ (F := F)) 𝒱₀ (V d (core i) (tile i)) none) Set.univ
              (Scf.Loop.for k0_t6_loop k0_t6_ok ⟨⟩ (k0_t6_body i s.a0 h2 s.a1 h3 s.a2 h4 s.a3 h5 m6 h6 m7 h7 l0.b0 h8 l1.b0 h9 l2.b0 h10 l0.b1 h11 l1.b1 h12 l2.b1 h13 l0.b2 h14 l1.b2 h15 l2.b2 h16 l0.b3 h17 l1.b3 h18 l2.b3 h19 acc h20 m21 h21 l0.s0 l0.s1 l0.s2 l0.s3 l1.s0 l1.s1 l1.s2 l1.s3 l2.s0 l2.s1 l2.s2 l2.s3 r0 r1 tv) >>= kk) Q) :=
  wp_groups d (core i) (tile i) s l0 acc e m a k0_t6_loop k0_t6_ok (by decide) _ fun g _ =>
    wp_trip d (core i) (tile i) s.I s.R s.St s.En s.t l0.b0 l0.b1 l0.b2 l0.b3 acc tv ht hI (k0_off10 g) (k0_off10_inb g)
      (e + m) g.val (k0_off10_eq g) (s.run e m a)

omit hI ht in
/-- The loop that clears the accumulator. -/
theorem wp_t1 (w : S65536.Idx → F .f32) {α : Type}
    {kk : Unit → Prog (TpuEff nD τ sig (Elt F) Λ₀ (V d (core i) (tile i)).2) α} {Q : α → sProp 𝕄} :
    At d (core i) (tile i) fullShare acc (e := .f32) w
      ⊢ iprop((At d (core i) (tile i) fullShare acc (e := .f32) zeros -∗ wp frame (wpE (defs₀ (F := F)) 𝒱₀ (V d (core i) (tile i)) none) Set.univ (kk ⟨⟩) Q)
          -∗ wp frame (wpE (defs₀ (F := F)) 𝒱₀ (V d (core i) (tile i)) none) Set.univ (Scf.Loop.for k0_t1_loop k0_t1_ok ⟨⟩ (k0_t1_body i s.a0 h2 s.a1 h3 s.a2 h4 s.a3 h5 m6 h6 m7 h7 l0.b0 h8 l1.b0 h9 l2.b0 h10 l0.b1 h11 l1.b1 h12 l2.b1 h13 l0.b2 h14 l1.b2 h15 l2.b2 h16 l0.b3 h17 l1.b3 h18 l2.b3 h19 acc h20 m21 h21 l0.s0 l0.s1 l0.s2 l0.s3 l1.s0 l1.s1 l1.s2 l1.s3 l2.s0 l2.s1 l2.s2 l2.s3 r0 r1) >>= kk) Q) := by
  iintro H HK
  iapply (Scf.wp_for_bind frame (wpE (defs₀ (F := F)) 𝒱₀ (V d (core i) (tile i)) none) Set.univ k0_t1_loop.lb k0_t1_loop.ub k0_t1_loop.st k0_t1_ok ⟨⟩ (k0_t1_body i s.a0 h2 s.a1 h3 s.a2 h4 s.a3 h5 m6 h6 m7 h7 l0.b0 h8 l1.b0 h9 l2.b0 h10 l0.b1 h11 l1.b1 h12 l2.b1 h13 l0.b2 h14 l1.b2 h15 l2.b2 h16 l0.b3 h17 l1.b3 h18 l2.b3 h19 acc h20 m21 h21 l0.s0 l0.s1 l0.s2 l0.s3 l1.s0 l1.s1 l1.s2 l1.s3 l2.s0 l2.s1 l2.s2 l2.s3 r0 r1)
    (fun k _ => At d (core i) (tile i) fullShare acc (e := .f32) (cleared w k))
    (fun k _ => wp_clear d (core i) (tile i) acc w (k0_off2 k) (k0_off2_inb k) k.val (k0_off2_eq k))) $$ [H]
  · rw [show cleared w 0 = w from funext fun x => if_neg (by omega)]
    iexact H
  iintro %u H
  rw [show cleared w (Scf.trips k0_t1_loop.lb k0_t1_loop.ub k0_t1_loop.st) = zeros from funext fun x => if_pos (by
    have hx : (x 0).val < 65536 := (x 0).isLt
    have ht : Scf.trips k0_t1_loop.lb k0_t1_loop.ub k0_t1_loop.st = 4096 := by decide
    omega)]
  iapply HK; iexact H

/-- A tile's row of the partial sums. -/
abbrev rowOf : Memref sig .scVector .hbm S65536 .f32 :=
  (m7.slice (Rect.unit (s := S32x65536) (k0_off11 i) S1x65536.size (k0_off11_inb i)) (fun _ => rfl)).squeeze S65536 squeezes_S1x65536_S65536

omit ht
/-- The whole task: from the ring idle, the tile's row ends at the fold of its 100000 events into a cleared accumulator. -/
theorem wp_task (q : PosShare TreeShare) (O : CellTallies nD τ sig (HIx 1)) (W : Waits sig (HIx 1)) :
    iprop(Transfers.MayWaits (V d (core i) (tile i)) (none : HIx 1) O ∗ IdleS d (core i) (tile i) s l0 ∗ IdleS d (core i) (tile i) s l1 ∗ IdleS d (core i) (tile i) s l2
        ∗ (∃ w, At d (core i) (tile i) fullShare acc w) ∗ At d (core i) (tile i) q m6 (e := .f32) (fun _ => s.t) ∗ (∃ w, At d (core i) (tile i) fullShare m21 w)
        ∗ (∃ w, At d (core i) (tile i) fullShare (rowOf i m7) w)
        ∗ semVal (V d (core i) (tile i), .dma r0.sem) 0 ∗ semVal (V d (core i) (tile i), .dma r1.sem) 0 ∗ Ow d (core i) (tile i) O W)
      ⊢ wp frame (wpE (defs₀ (F := F)) 𝒱₀ (V d (core i) (tile i)) none) Set.univ (cc0_body i s.a0 h2 s.a1 h3 s.a2 h4 s.a3 h5 m6 h6 m7 h7 l0.b0 h8 l1.b0 h9 l2.b0 h10 l0.b1 h11 l1.b1 h12 l2.b1 h13 l0.b2 h14 l1.b2 h15 l2.b2 h16 l0.b3 h17 l1.b3 h18 l2.b3 h19 acc h20 m21 h21 l0.s0 l0.s1 l0.s2 l0.s3 l1.s0 l1.s1 l1.s2 l1.s3 l2.s0 l2.s1 l2.s2 l2.s3 r0 r1) fun _ =>
          iprop(IdleS d (core i) (tile i) s l0 ∗ IdleS d (core i) (tile i) s l1 ∗ IdleS d (core i) (tile i) s l2
            ∗ (∃ w, At d (core i) (tile i) fullShare acc w) ∗ At d (core i) (tile i) q m6 (e := .f32) (fun _ => s.t) ∗ (∃ w, At d (core i) (tile i) fullShare m21 w)
            ∗ At d (core i) (tile i) fullShare (rowOf i m7) (e := .f32) (s.run (base i) 100000 zeros)
            ∗ semVal (V d (core i) (tile i), .dma r0.sem) 0 ∗ semVal (V d (core i) (tile i), .dma r1.sem) 0 ∗ Ow d (core i) (tile i) O W) := by
  rw [cc0_body_eq_skeleton]
  unfold cc0_body_skel
  rw [k0_part2_eq_skeleton]
  unfold k0_part2_skel
  simp only [Prog.lift, Prog.bind_op, Prog.bind_ret, Prog.pure_eq_ret, Prog.bind_assoc]
  iintro ⟨#Hmw, H0, H1, H2, ⟨%wa, Ha⟩, H6, H21, H7, Hr0, Hr1, HO⟩
  iapply (wp_issueS d (core i) (tile i) s l0 (k0_off1 i 0#32) (k0_off1_inb i 0) (base i) (off1_0 i)) $$ H0
  iintro H0
  iapply (wp_issueS d (core i) (tile i) s l1 (k0_off1 i 4000#32) (k0_off1_inb i 1) (base i + 4000) (off1_1 i)) $$ H1
  iintro H1
  iapply (wp_copy d (core i) (tile i) q m6 m21 r0.sem (fun _ => s.t) (by decide) O W) $$ [H6 H21 Hr0 HO]
  · isplitr; · iexact Hmw
    isplitl [H6]; · iexact H6
    isplitl [H21]; · iexact H21
    isplitl [Hr0]; · iexact Hr0
    iexact HO
  iintro ⟨H6, H21, Hr0, HO⟩
  have hsub : m21.view.setOn (Rect.unit (s := S16) ![0] S16.size inb_S16_S16_0).toLoadRect.set ⊆ m21.view.set :=
    Finset.map_subset_map.mpr (Finset.subset_univ _)
  ihave H21 := (at_open (F := F) (d := d) (c := core i) (j := tile i) fullShare m21 (fun _ => s.t)) $$ H21
  icases H21 with ⟨%f21, %hf21, H21⟩
  iapply (wp_load 𝒱₀ (V d (core i) (tile i)) none Set.univ (m := m21) hsub) $$ H21
  iintro H21
  have htv : ∀ x, m21.view.readAt (Elt F) (Rect.unit (s := S16) ![0] S16.size inb_S16_S16_0).toLoadRect f21 x = s.t := fun x =>
    congrFun hf21 ((Rect.unit (s := S16) ![0] S16.size inb_S16_S16_0).emb x)
  generalize m21.view.readAt (Elt F) (Rect.unit (s := S16) ![0] S16.size inb_S16_S16_0).toLoadRect f21 = tv at htv ⊢
  change Vec F S16 .f32 at tv
  iapply (wp_t1 d i s l0 l1 l2 m6 m7 acc m21 r0 r1 h2 h3 h4 h5 h6 h7 h8 h9 h10 h11 h12 h13 h14 h15 h16 h17 h18 h19 h20 h21 wa) $$ Ha
  iintro Ha
  ihave HR : Ring d i s l0 l1 l2 acc O W zeros 0 $$ [H0 H1 H2 Ha HO]
  · unfold Ring
    rw [if_pos (show 0 < 8 by omega)]
    isplitr; · iexact Hmw
    isplitl [H0]; · iexact H0
    isplitl [H1]; · iexact H1
    isplitl [H2]; · iexact H2
    isplitl [Ha]; · iexact Ha
    iexact HO
  iapply (Scf.wp_for_bind frame (wpE (defs₀ (F := F)) 𝒱₀ (V d (core i) (tile i)) none) Set.univ k0_t2_loop.lb k0_t2_loop.ub k0_t2_loop.st k0_t2_ok ⟨⟩ _
    (fun k _ => Ring d i s l0 l1 l2 acc O W zeros k)
    (fun k u => wp_ring d i s l0 l1 l2 m6 m7 acc m21 r0 r1 h2 h3 h4 h5 h6 h7 h8 h9 h10 h11 h12 h13 h14 h15 h16 h17 h18 h19 h20 h21 hI _ tv htv O W zeros k u)) $$ HR
  iintro %u HR
  rw [show Scf.trips k0_t2_loop.lb k0_t2_loop.ub k0_t2_loop.st = 8 from by decide]
  unfold Ring
  rw [if_neg (show ¬ 8 < 8 by omega)]
  icases HR with ⟨-, H0, H1, H2, Ha, HO⟩
  iapply (wp_awaitS d (core i) (tile i) s l0 (base i + 12000 * 8) O W) $$ [H0 HO]
  · isplitr; · iexact Hmw
    isplitl [H0]; · iexact H0
    iexact HO
  iintro ⟨H0, HO⟩
  iapply (wp_t6 d i s l0 l1 l2 m6 m7 acc m21 r0 r1 h2 h3 h4 h5 h6 h7 h8 h9 h10 h11 h12 h13 h14 h15 h16 h17 h18 h19 h20 h21 hI tv htv (base i) (12000 * 8) zeros) $$ [H0 Ha]
  · isplitl [H0]; · iexact H0
    iexact Ha
  iintro ⟨H0, Ha⟩
  ihave H0 := (idleS_of_fullS d (core i) (tile i) s l0 (base i + 12000 * 8)) $$ H0
  iapply (wp_copy d (core i) (tile i) fullShare acc (rowOf i m7) r1.sem (s.run (base i) (12000 * 8 + 4000) zeros) (by decide) O W) $$ [Ha H7 Hr1 HO]
  · isplitr; · iexact Hmw
    isplitl [Ha]; · iexact Ha
    isplitl [H7]; · iexact H7
    isplitl [Hr1]; · iexact Hr1
    iexact HO
  iintro ⟨Ha, H7, Hr1, HO⟩
  rw [wp_ret]
  imodintro
  isplitl [H0]; · iexact H0
  isplitl [H1]; · iexact H1
  isplitl [H2]; · iexact H2
  isplitl [Ha]; · iexists _; iexact Ha
  isplitl [H6]; · iexact H6
  isplitl [H21]
  · iexists _
    unfold At
    iexists f21; isplitr; · ipureintro; rfl
    iexact H21
  isplitl [H7]; · iexact H7
  isplitl [Hr0]; · iexact Hr0
  isplitl [Hr1]; · iexact Hr1
  iexact HO

end Tile

end Cert.Proof.Pool

end
-- ==== Proof.Tasks.lean ====
/-
  One tile's task as the launch asks for it: from a share of the event arrays and of the broadcast time, the tile's row of the
  partial sums, its scratch buffers and its semaphores, to the same with the row at the fold of the tile's events.
-/
module

public import proofs.«01_k».proof.Proof.Tile

@[expose] public section

noncomputable section

namespace Cert.Proof.Pool

open Cert.KernelIdeal Cert.KernelIdeal.Gen Cert.Proof.Events

open Idealize.ShloMosaic
open Idealize.ShloMosaic.SparseCore (S V)
open Idealize.ShloMosaic.SparseCore.Cfg (HIx Pay ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type}

local notation "𝕄" => MT nD τ sig (HIx 1) (Elt F) ℕ UU ℕ

variable [FloatOps F]

/-! ## The program as the launch sees it -/

/-- The labels under the SparseCore calls. -/
abbrev ΛP : Labels := Pipeline.Sig Λ₀ (Fin 1) fun p => (pcfgs (F := F) p).Adm
/-- The SparseCore call. -/
abbrev K : SparseCore.Cfg τ sig (ΛP (F := F)) 1 := sc (F := F)
/-- The bodies under the SparseCore call. -/
abbrev D : Defs nD τ sig (Elt F) (ΛP (F := F)) := Pipeline.defs pcfgs defs₀
/-- The variants under the SparseCore call. -/
abbrev 𝒱 : Variants := 𝒱₀.lift
/-- The bound the tiles run under. -/
abbrev v₀ : 𝒱.V := Sum.inl none

/-- The launch's semaphores are apart and no SparseCore shares a buffer. -/
theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide,
    show (SemLoc.reg sc_go : SemLoc sig).isScoped .scVector = false by decide,
    show (SemLoc.reg sc_done : SemLoc sig).isScoped .tc = false by decide,
    show ∀ (b : DevRef τ sig) (c : Fin τ.nSC), b.owner = .sc c → sig.taskShared b.table b.idx = false by decide, fun _ => rfl⟩

/-- Where the handshakes' ghost state lies. -/
abbrev EH : Emb UH (MT nD τ sig (HIx 1) (Elt F) ℕ UU ℕ) := embL

/-! ## The arrays -/

variable (m : (ℓ : Loc nD τ sig) → Buf (Elt F) ℓ)

/-- The buckets' array. -/
abbrev l0 (d : Dev nD) : Loc nD τ sig := (SparseCore.T d : Thread nD τ).loc main_arg0
/-- The rates' array. -/
abbrev l1 (d : Dev nD) : Loc nD τ sig := (SparseCore.T d : Thread nD τ).loc main_arg1
/-- The starts' array. -/
abbrev l2 (d : Dev nD) : Loc nD τ sig := (SparseCore.T d : Thread nD τ).loc main_arg2
/-- The ends' array. -/
abbrev l3 (d : Dev nD) : Loc nD τ sig := (SparseCore.T d : Thread nD τ).loc main_arg3
/-- The time. -/
abbrev l4 (d : Dev nD) : Loc nD τ sig := (SparseCore.T d : Thread nD τ).loc main_arg4
/-- The time's broadcast. -/
abbrev lt (d : Dev nD) : Loc nD τ sig := (SparseCore.T d : Thread nD τ).loc main_v0
/-- The partial sums. -/
abbrev lp (d : Dev nD) : Loc nD τ sig := (SparseCore.T d : Thread nD τ).loc main_v1

/-- The events of device `d` as the launch memory holds them. -/
abbrev src (d : Dev nD) : Src F where
  a0 := Memref.whole main_arg0_scv
  a1 := Memref.whole main_arg1_scv
  a2 := Memref.whole main_arg2_scv
  a3 := Memref.whole main_arg3_scv
  I := m (l0 d)
  R := m (l1 d)
  St := m (l2 d)
  En := m (l3 d)
  t := (m (l4 d) : S_.Idx → F .f32) fun a => a.elim0

/-- What a tile reads: the four event arrays and the broadcast time, at share `q`. -/
def Args (d : Dev nD) (q : PosShare TreeShare) : sProp 𝕄 :=
  iprop((l0 d ↦{q} m (l0 d)) ∗ (l1 d ↦{q} m (l1 d)) ∗ (l2 d ↦{q} m (l2 d)) ∗ (l3 d ↦{q} m (l3 d))
    ∗ (lt d ↦{q} ((fun _ => (src m d).t : S16.Idx → F .f32) : Buf (Elt F) (lt d))))

/-- The partial sums' row `n`. -/
def rowSet (n : ℕ) : Finset S32x65536.Idx := Finset.univ.filter fun x => (x 0).val = n

/-- The place in a row of an element of the partial sums. -/
def col (x : S32x65536.Idx) : S65536.Idx := fun | ⟨0, _⟩ => x 1

/-- The partial sums: row `n` holds the fold of tile `n`'s events into a cleared accumulator. -/
def parts (d : Dev nD) : S32x65536.Idx → F .f32 := fun x => (src m d).run (100000 * (x 0).val) 100000 zeros (col x)

/-! ## A whole buffer's elements at a value -/

omit [FloatOps F] in
/-- A whole buffer held at a value is its points-to. -/
theorem at_whole (d : Dev nD) (c : Fin τ.nSC) (j : Fin τ.nSub) (q : PosShare TreeShare) (r : Ref sig .scVector)
    (f : Buf (Elt F) ((V d c j).loc r)) :
    (At d c j q (Memref.whole r) f : sProp 𝕄) = iprop((V d c j).loc r ↦{q} f) := by
  have hs : (Memref.whole r : Memref sig .scVector _ _ _).view.set = Finset.univ := View.set_whole r
  have h1 : (At d c j q (Memref.whole r) f : sProp 𝕄) ⊢ iprop((V d c j).loc r ↦{q} f) := by
    unfold At
    iintro ⟨%g, %hg, H⟩
    have e : g = f := hg
    rw [hs, e]
    iexact H
  have h2 : iprop((V d c j).loc r ↦{q} f) ⊢ (At d c j q (Memref.whole r) f : sProp 𝕄) := by
    unfold At
    iintro H
    iexists f
    isplitr
    · ipureintro; rfl
    · rw [hs]; iexact H
  exact equiv_iff.mp ⟨h1, h2⟩

omit [FloatOps F] in
/-- A whole buffer held at anything. -/
theorem at_any (d : Dev nD) (c : Fin τ.nSC) (j : Fin τ.nSub) (r : Ref sig .scVector) :
    (iprop(∃ w, At d c j fullShare (Memref.whole r) w) : sProp 𝕄) = iprop(∃ f, (V d c j).loc r ↦{fullShare} f) := by
  congr 1; funext w; exact at_whole d c j fullShare r w

/-! ## A tile's row -/

theorem off11_eq (i : grid0.Coords) : k0_off11 i = ![16 * (i 0).val + (i 1).val, 0] := by
  have h : ∀ i : grid0.Coords, k0_off11 i = ![16 * (i 0).val + (i 1).val, 0] := by decide +kernel
  exact h i

/-- The view of a tile's row covers exactly the row. -/
theorem rowOf_set (i : grid0.Coords) :
    (rowOf i (Memref.whole main_v1_scv)).view.set = rowSet (16 * (i 0).val + (i 1).val) := by
  have e : (rowOf i (Memref.whole main_v1_scv)).view.set = (Rect.unit (s := S32x65536) (k0_off11 i) S1x65536.size (k0_off11_inb i)).set := by
    refine (View.set_reshape _ _).trans ?_
    show ((View.whole (main_v1_scv : Ref sig .scVector)).slice _).set = _
    rw [View.set_slice]; exact Finset.map_refl
  rw [e]
  ext x
  rw [Rect.mem_set_unit, rowSet, Finset.mem_filter, Fin.forall_fin_two, off11_eq]
  have h0 : S1x65536.size 0 = 1 := rfl
  have h1 : S1x65536.size 1 = 65536 := rfl
  have hx : (x 1).val < 65536 := (x 1).isLt
  rw [h0, h1]
  show (16 * (i 0).val + (i 1).val ≤ (x 0).val ∧ (x 0).val < 16 * (i 0).val + (i 1).val + 1) ∧ (0 ≤ (x 1).val ∧ (x 1).val < 0 + 65536) ↔ _
  simp only [Finset.mem_univ, true_and]
  omega

/-- An element of a tile's row, by its place in the row. -/
theorem rowOf_emb (i : grid0.Coords) (y : S65536.Idx) :
    ((rowOf i (Memref.whole main_v1_scv)).view.emb y 1).val = (y 0).val := by
  have h : (rowOf i (Memref.whole main_v1_scv)).view.emb y
      = (Rect.unit (s := S32x65536) (k0_off11 i) S1x65536.size (k0_off11_inb i)).emb
          (Shape.reshapeEquiv (s := S1x65536) (s' := S65536) (Shape.Squeezes.numel_eq squeezes_S1x65536_S65536) y) := rfl
  rw [h, Rect.emb_apply]
  have e : (Shape.reshapeEquiv (s := S1x65536) (s' := S65536) (Shape.Squeezes.numel_eq squeezes_S1x65536_S65536) y)
      = Fin.cons (⟨0, Nat.one_pos⟩ : Fin 1) y := Shape.reshapeEquiv_cons_one (d := ![65536]) _ y
  rw [e]
  show k0_off11 i 1 + 1 * (y 0).val = _
  rw [off11_eq]
  show 0 + 1 * (y 0).val = _
  omega

/-- A row at some contents is held through its view. -/
theorem row_in (d : Dev nD) (i : grid0.Coords) (f : Buf (Elt F) (lp d)) :
    (iprop(lp d ↦[rowSet (16 * (i 0).val + (i 1).val)]{fullShare} f) : sProp 𝕄)
      ⊢ iprop(∃ w, At d (core i) (tile i) fullShare (rowOf i (Memref.whole main_v1_scv)) w) := by
  unfold At
  iintro H
  iexists _, f
  isplitr
  · ipureintro; rfl
  · rw [rowOf_set]; iexact H

/-- A row held through its view at a value is the row at an array that agrees with it. -/
theorem row_out (d : Dev nD) (i : grid0.Coords) (w : S65536.Idx → F .f32) (G : Buf (Elt F) (lp d))
    (h : ∀ x : S32x65536.Idx, (x 0).val = 16 * (i 0).val + (i 1).val → (G : S32x65536.Idx → F .f32) x = w (col x)) :
    (At d (core i) (tile i) fullShare (rowOf i (Memref.whole main_v1_scv)) (e := .f32) w : sProp 𝕄)
      ⊢ iprop(lp d ↦[rowSet (16 * (i 0).val + (i 1).val)]{fullShare} G) := by
  unfold At
  iintro ⟨%g, %hg, H⟩
  have hgG : ∀ x ∈ (rowOf i (Memref.whole main_v1_scv)).view.set, (g : S32x65536.Idx → F .f32) x = (G : S32x65536.Idx → F .f32) x := by
    intro x hx
    have hx0 : x ∈ rowSet (16 * (i 0).val + (i 1).val) := rowOf_set i ▸ hx
    rw [rowSet, Finset.mem_filter] at hx0
    rw [h x hx0.2]
    obtain ⟨y, -, rfl⟩ := Finset.mem_map.mp hx
    have e := congrFun hg y
    have ey : col ((rowOf i (Memref.whole main_v1_scv)).view.emb y) = y := by
      funext a
      have ha : a = 0 := Subsingleton.elim _ _
      subst ha
      exact Fin.ext (rowOf_emb i y)
    rw [← hg]
    refine Eq.trans ?_ (congrArg (View.read (Elt F) (rowOf i (Memref.whole main_v1_scv)).view g) ey.symm)
    exact ((View.read_apply _ _).trans (cast_eq _ _)).symm
  rw [← rowOf_set]
  iapply (Entails.of_eq (pointsTo_congr hgG))
  iexact H

/-! ## The tile's own buffers and semaphores -/

/-- The tile's scratch buffers. -/
def scr : List (Ref sig .scVector) :=
  [cc0_scratch0, cc0_scratch1, cc0_scratch2, cc0_scratch3, cc0_scratch4, cc0_scratch5, cc0_scratch6, cc0_scratch7, cc0_scratch8,
    cc0_scratch9, cc0_scratch10, cc0_scratch11, cc0_scratch12, cc0_scratch13]

/-- The tile's semaphores. -/
def sems : List (DmaSem sig) :=
  [cc0_scratch14.sem, cc0_scratch15.sem, cc0_scratch16.sem, cc0_scratch17.sem, cc0_scratch18.sem, cc0_scratch19.sem, cc0_scratch20.sem,
    cc0_scratch21.sem, cc0_scratch22.sem, cc0_scratch23.sem, cc0_scratch24.sem, cc0_scratch25.sem, cc0_scoped0.sem, cc0_scoped1.sem]

theorem scr_nodup : scr.Nodup := by decide
theorem sems_nodup : sems.Nodup := by
  show ([_, _, _, _, _, _, _, _, _, _, _, _, _, _] : List (Fin 17)).Nodup
  decide

variable (d : Dev nD) (c : Fin τ.nSC) (j : Fin τ.nSub)

/-- The tile's scratch buffers, one by one, beside the rest of its buffers. -/
theorem ownBufs_scr : ∃ R : sProp 𝕄, (ownBufs (V d c j) : sProp 𝕄)
    = iprop(bigSepL scr (fun r => iprop(∃ f, (V d c j).loc r ↦{fullShare} f)) ∗ R) := by
  classical
  have hm : (scr.map fun r => (Proc.scVector c j).devRef r).toFinset ⊆ ownRefs (τ := τ) (.scVector c j) := by
    intro b hb
    rw [List.mem_toFinset, List.mem_map] at hb
    obtain ⟨r, hr, rfl⟩ := hb
    refine SparseCore.Cfg.mem_ownRefs_of_owner (p := Proc.scVector c j) ?_
    simp only [scr, List.mem_cons, List.not_mem_nil, or_false] at hr
    rcases hr with rfl | rfl | rfl | rfl | rfl | rfl | rfl | rfl | rfl | rfl | rfl | rfl | rfl | rfl <;> rfl
  have e := SparseCore.bigSep_sdiff_split' hm (Φ := fun b => (iprop(∃ f, ((d, b) : Loc nD τ sig) ↦{fullShare} f) : sProp 𝕄))
  rw [bigSep_eq_bigSepL _ (scr_nodup.map (Proc.devRef_injective _))] at e
  exact ⟨_, e⟩

/-- The tile's semaphores at zero, one by one, beside the rest of its semaphores. -/
theorem ownSems0_sems : ∃ R : sProp 𝕄, (ownSems0 (V d c j) : sProp 𝕄)
    = iprop(bigSepL sems (fun x => semVal (V d c j, .dma x) 0) ∗ R) := by
  classical
  have hm : (sems.map fun x => ((V d c j, .dma x) : GSem nD τ sig)).toFinset ⊆ ownCells (V d c j) := by
    intro g hg
    rw [List.mem_toFinset, List.mem_map] at hg
    obtain ⟨x, hx, rfl⟩ := hg
    refine mem_ownCells.mpr ⟨rfl, ?_⟩
    show (SemLoc.dma x : SemLoc sig).isScoped .scVector = true
    revert x
    show ∀ x ∈ ([_, _, _, _, _, _, _, _, _, _, _, _, _, _] : List (Fin 17)), (SemLoc.dma x : SemLoc sig).isScoped .scVector = true
    decide
  have e := SparseCore.bigSep_sdiff_split' hm (Φ := fun g => (semVal g 0 : sProp 𝕄))
  rw [bigSep_eq_bigSepL _ (sems_nodup.map fun x y h => SemLoc.dma.inj (Prod.mk.inj h).2)] at e
  exact ⟨_, e⟩

end Cert.Proof.Pool

end
-- ==== Proof.Launch.lean ====
/-
  The SparseCore call's payloads and its tiles' obligation: what the call is started with, what each tile is handed and hands back,
  and how the first is split into the second and joined again.
-/
module

public import proofs.«01_k».proof.Proof.Tasks

@[expose] public section

noncomputable section

namespace Cert.Proof.Pool

open Cert.KernelIdeal Cert.KernelIdeal.Gen Cert.Proof.Events

open Idealize.ShloMosaic
open Idealize.ShloMosaic.SparseCore (S V)
open Idealize.ShloMosaic.SparseCore.Cfg (HIx Pay ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type}

local notation "𝕄" => MT nD τ sig (HIx 1) (Elt F) ℕ UU ℕ

variable [FloatOps F]

variable (m : (ℓ : Loc nD τ sig) → Buf (Elt F) ℓ)

/-! ## The slots -/

/-- The first slot, reading with share `q`. -/
abbrev slotA (q : PosShare TreeShare) : Slot :=
  ⟨q, Memref.whole cc0_scratch0, Memref.whole cc0_scratch3, Memref.whole cc0_scratch6, Memref.whole cc0_scratch9, cc0_scratch14, cc0_scratch15,
    cc0_scratch16, cc0_scratch17⟩
/-- The second. -/
abbrev slotB (q : PosShare TreeShare) : Slot :=
  ⟨q, Memref.whole cc0_scratch1, Memref.whole cc0_scratch4, Memref.whole cc0_scratch7, Memref.whole cc0_scratch10, cc0_scratch18, cc0_scratch19,
    cc0_scratch20, cc0_scratch21⟩
/-- The third. -/
abbrev slotC (q : PosShare TreeShare) : Slot :=
  ⟨q, Memref.whole cc0_scratch2, Memref.whole cc0_scratch5, Memref.whole cc0_scratch8, Memref.whole cc0_scratch11, cc0_scratch22, cc0_scratch23,
    cc0_scratch24, cc0_scratch25⟩

section Slots

variable (d : Dev nD) (c : Fin τ.nSC) (j : Fin τ.nSub)

omit [FloatOps F] in
/-- A slot with no copy under way, by its arrays, its buffers and its semaphores. -/
theorem slot_eq (s : Src F) (l : Slot) {A0 A1 A2 A3 B0 B1 B2 B3 : sProp 𝕄}
    (a0 : (At d c j l.q s.a0 (e := .i32) s.I : sProp 𝕄) = A0) (a1 : (At d c j l.q s.a1 (e := .f32) s.R : sProp 𝕄) = A1)
    (a2 : (At d c j l.q s.a2 (e := .f32) s.St : sProp 𝕄) = A2) (a3 : (At d c j l.q s.a3 (e := .f32) s.En : sProp 𝕄) = A3)
    (b0 : (iprop(∃ w, At d c j fullShare l.b0 w) : sProp 𝕄) = B0) (b1 : (iprop(∃ w, At d c j fullShare l.b1 w) : sProp 𝕄) = B1)
    (b2 : (iprop(∃ w, At d c j fullShare l.b2 w) : sProp 𝕄) = B2) (b3 : (iprop(∃ w, At d c j fullShare l.b3 w) : sProp 𝕄) = B3) :
    (IdleS d c j s l : sProp 𝕄) = iprop((A0 ∗ B0 ∗ semVal (V d c j, .dma l.s0.sem) 0) ∗ (A1 ∗ B1 ∗ semVal (V d c j, .dma l.s1.sem) 0)
      ∗ (A2 ∗ B2 ∗ semVal (V d c j, .dma l.s2.sem) 0) ∗ (A3 ∗ B3 ∗ semVal (V d c j, .dma l.s3.sem) 0)) := by
  unfold IdleS Idle
  rw [a0, a1, a2, a3, b0, b1, b2, b3]

/-- The first slot, over the launch's arrays. -/
theorem slotA_eq (q : PosShare TreeShare) :
    (IdleS d c j (src m d) (slotA q) : sProp 𝕄)
      = iprop(((l0 d ↦{q} m (l0 d)) ∗ (∃ f, (V d c j).loc cc0_scratch0 ↦{fullShare} f) ∗ semVal (V d c j, .dma cc0_scratch14.sem) 0)
        ∗ ((l1 d ↦{q} m (l1 d)) ∗ (∃ f, (V d c j).loc cc0_scratch3 ↦{fullShare} f) ∗ semVal (V d c j, .dma cc0_scratch15.sem) 0)
        ∗ ((l2 d ↦{q} m (l2 d)) ∗ (∃ f, (V d c j).loc cc0_scratch6 ↦{fullShare} f) ∗ semVal (V d c j, .dma cc0_scratch16.sem) 0)
        ∗ ((l3 d ↦{q} m (l3 d)) ∗ (∃ f, (V d c j).loc cc0_scratch9 ↦{fullShare} f) ∗ semVal (V d c j, .dma cc0_scratch17.sem) 0)) :=
  slot_eq d c j (src m d) (slotA q) (at_whole d c j q main_arg0_scv (m (l0 d))) (at_whole d c j q main_arg1_scv (m (l1 d)))
    (at_whole d c j q main_arg2_scv (m (l2 d))) (at_whole d c j q main_arg3_scv (m (l3 d))) (at_any d c j cc0_scratch0)
    (at_any d c j cc0_scratch3) (at_any d c j cc0_scratch6) (at_any d c j cc0_scratch9)

/-- The second. -/
theorem slotB_eq (q : PosShare TreeShare) :
    (IdleS d c j (src m d) (slotB q) : sProp 𝕄)
      = iprop(((l0 d ↦{q} m (l0 d)) ∗ (∃ f, (V d c j).loc cc0_scratch1 ↦{fullShare} f) ∗ semVal (V d c j, .dma cc0_scratch18.sem) 0)
        ∗ ((l1 d ↦{q} m (l1 d)) ∗ (∃ f, (V d c j).loc cc0_scratch4 ↦{fullShare} f) ∗ semVal (V d c j, .dma cc0_scratch19.sem) 0)
        ∗ ((l2 d ↦{q} m (l2 d)) ∗ (∃ f, (V d c j).loc cc0_scratch7 ↦{fullShare} f) ∗ semVal (V d c j, .dma cc0_scratch20.sem) 0)
        ∗ ((l3 d ↦{q} m (l3 d)) ∗ (∃ f, (V d c j).loc cc0_scratch10 ↦{fullShare} f) ∗ semVal (V d c j, .dma cc0_scratch21.sem) 0)) :=
  slot_eq d c j (src m d) (slotB q) (at_whole d c j q main_arg0_scv (m (l0 d))) (at_whole d c j q main_arg1_scv (m (l1 d)))
    (at_whole d c j q main_arg2_scv (m (l2 d))) (at_whole d c j q main_arg3_scv (m (l3 d))) (at_any d c j cc0_scratch1)
    (at_any d c j cc0_scratch4) (at_any d c j cc0_scratch7) (at_any d c j cc0_scratch10)

/-- The third. -/
theorem slotC_eq (q : PosShare TreeShare) :
    (IdleS d c j (src m d) (slotC q) : sProp 𝕄)
      = iprop(((l0 d ↦{q} m (l0 d)) ∗ (∃ f, (V d c j).loc cc0_scratch2 ↦{fullShare} f) ∗ semVal (V d c j, .dma cc0_scratch22.sem) 0)
        ∗ ((l1 d ↦{q} m (l1 d)) ∗ (∃ f, (V d c j).loc cc0_scratch5 ↦{fullShare} f) ∗ semVal (V d c j, .dma cc0_scratch23.sem) 0)
        ∗ ((l2 d ↦{q} m (l2 d)) ∗ (∃ f, (V d c j).loc cc0_scratch8 ↦{fullShare} f) ∗ semVal (V d c j, .dma cc0_scratch24.sem) 0)
        ∗ ((l3 d ↦{q} m (l3 d)) ∗ (∃ f, (V d c j).loc cc0_scratch11 ↦{fullShare} f) ∗ semVal (V d c j, .dma cc0_scratch25.sem) 0)) :=
  slot_eq d c j (src m d) (slotC q) (at_whole d c j q main_arg0_scv (m (l0 d))) (at_whole d c j q main_arg1_scv (m (l1 d)))
    (at_whole d c j q main_arg2_scv (m (l2 d))) (at_whole d c j q main_arg3_scv (m (l3 d))) (at_any d c j cc0_scratch2)
    (at_any d c j cc0_scratch5) (at_any d c j cc0_scratch8) (at_any d c j cc0_scratch11)

omit [FloatOps F] in
/-- A points-to in two shares. -/
theorem pts_two {ℓ : Loc nD τ sig} (q : PosShare TreeShare) (f : Buf (Elt F) ℓ) :
    (iprop(ℓ ↦{q} f) : sProp 𝕄) = iprop((ℓ ↦{q.left} f) ∗ (ℓ ↦{q.right} f)) :=
  have h := pointsTo_share (ℓ := ℓ) (f := f) (I := Finset.univ) (Ix := HIx 1) (Name := ℕ) (U := UU) (Lvl := ℕ) (PosShare.mem_left_op_right q)
  equiv_iff.mp ⟨h.1, h.2⟩

omit [FloatOps F] in
/-- A points-to in three shares. -/
theorem pts_three {ℓ : Loc nD τ sig} (q : PosShare TreeShare) (f : Buf (Elt F) ℓ) :
    (iprop(ℓ ↦{q} f) : sProp 𝕄) = iprop((ℓ ↦{q.left} f) ∗ (ℓ ↦{q.right.left} f) ∗ (ℓ ↦{q.right.right} f)) := by
  rw [pts_two q,
    pts_two q.right]

omit [FloatOps F] in
/-- The first of a list's conjuncts, and the rest. -/
theorem list_two {I : Type} (i k : I) (l : List I) (Φ : I → sProp 𝕄) : bigSepL (i :: k :: l) Φ = iprop(Φ i ∗ bigSepL (k :: l) Φ) := rfl

omit [FloatOps F] in
/-- A list of one conjunct. -/
theorem list_one {I : Type} (i : I) (Φ : I → sProp 𝕄) : bigSepL [i] Φ = Φ i := rfl

end Slots

/-! ## The tile's task over its own buffers -/

/-- Every bucket names a bucket there is. -/
def PreOK : Prop := ∀ (d : Dev nD) (x : S3200000.Idx), (((m (l0 d) : S3200000.Idx → BitVec 32) x).toNat) < 100000

/-- What a tile is handed: what it reads at share `q`, and its row at `f`. -/
def Hand (d : Dev nD) (q : PosShare TreeShare) (n : ℕ) (f : Buf (Elt F) (lp d)) : sProp 𝕄 :=
  iprop(Args m d q ∗ (lp d ↦[rowSet n]{fullShare} f))

set_option pp.maxSteps 150 in
set_option maxRecDepth 16384 in
/-- The task of one tile, from what the launch hands it. -/
theorem tile_body (hF : (K (F := F)).Facts) (hpre : PreOK m) (d : Dev nD) (L : grid0.Coords) (q : PosShare TreeShare)
    (f : Buf (Elt F) (lp d)) (O : CellTallies nD τ sig (HIx 1)) (W : Waits sig (HIx 1)) (hO : ∀ g, O g none = 0) :
    iprop(levAts (K (F := F)).L (K (F := F)).lev ∗ emp ∗ Hand m d q (16 * (L 0).val + (L 1).val) f
        ∗ scopedBufs (V d (core L) (tile L)) ∗ scopedSems0 (V d (core L) (tile L)) ∗ owes (V d (core L) (tile L)) O W)
      ⊢ wp frame (wpE (defs₀ (F := F)) 𝒱₀ (V d (core L) (tile L)) none) Set.univ
          (cc0_body L (Memref.whole main_arg0_scv) (Memref.isWhole_whole _) (Memref.whole main_arg1_scv) (Memref.isWhole_whole _)
            (Memref.whole main_arg2_scv) (Memref.isWhole_whole _) (Memref.whole main_arg3_scv) (Memref.isWhole_whole _)
            (Memref.whole main_v0_scv) (Memref.isWhole_whole _) (Memref.whole main_v1_scv) (Memref.isWhole_whole _)
            (Memref.whole cc0_scratch0) (Memref.isWhole_whole _) (Memref.whole cc0_scratch1) (Memref.isWhole_whole _)
            (Memref.whole cc0_scratch2) (Memref.isWhole_whole _) (Memref.whole cc0_scratch3) (Memref.isWhole_whole _)
            (Memref.whole cc0_scratch4) (Memref.isWhole_whole _) (Memref.whole cc0_scratch5) (Memref.isWhole_whole _)
            (Memref.whole cc0_scratch6) (Memref.isWhole_whole _) (Memref.whole cc0_scratch7) (Memref.isWhole_whole _)
            (Memref.whole cc0_scratch8) (Memref.isWhole_whole _) (Memref.whole cc0_scratch9) (Memref.isWhole_whole _)
            (Memref.whole cc0_scratch10) (Memref.isWhole_whole _) (Memref.whole cc0_scratch11) (Memref.isWhole_whole _)
            (Memref.whole cc0_scratch12) (Memref.isWhole_whole _) (Memref.whole cc0_scratch13) (Memref.isWhole_whole _)
            cc0_scratch14 cc0_scratch15 cc0_scratch16 cc0_scratch17 cc0_scratch18 cc0_scratch19 cc0_scratch20 cc0_scratch21
            cc0_scratch22 cc0_scratch23 cc0_scratch24 cc0_scratch25 cc0_scoped0 cc0_scoped1)
          fun _ => iprop(Hand m d q (16 * (L 0).val + (L 1).val) (parts m d : Buf (Elt F) (lp d))
            ∗ scopedBufs (V d (core L) (tile L)) ∗ scopedSems0 (V d (core L) (tile L))
            ∗ ∃ W', ⌜∀ p ∈ W', p ∈ W ∨ p.2 = none⌝ ∗ owes (V d (core L) (tile L)) O W') := by
  have hrun : ∀ x : S32x65536.Idx, (x 0).val = 16 * (L 0).val + (L 1).val →
      parts m d x = (src m d).run (base L) 100000 zeros (col x) := by
    intro x hx
    unfold parts
    rw [hx, base, show 100000 * (16 * (L 0).val + (L 1).val) = 1600000 * (L 0).val + 100000 * (L 1).val by omega]
  obtain ⟨RB, hRB⟩ := ownBufs_scr (F := F) d (core L) (tile L)
  obtain ⟨RS, hRS⟩ := ownSems0_sems (F := F) d (core L) (tile L)
  have ht6 := at_whole (F := F) d (core L) (tile L) q main_v0_scv ((fun _ => (src m d).t : S16.Idx → F .f32) : Buf (Elt F) (lt d))
  have ha : (iprop(∃ w, At d (core L) (tile L) fullShare (Memref.whole cc0_scratch12 : Memref sig .scVector .vmem S65536 .f32) w) : sProp 𝕄)
      = iprop(∃ f, (V d (core L) (tile L)).loc cc0_scratch12 ↦{fullShare} f) := at_any (F := F) d (core L) (tile L) cc0_scratch12
  have h21 : (iprop(∃ w, At d (core L) (tile L) fullShare (Memref.whole cc0_scratch13 : Memref sig .scVector .vmem S16 .f32) w) : sProp 𝕄)
      = iprop(∃ f, (V d (core L) (tile L)).loc cc0_scratch13 ↦{fullShare} f) := at_any (F := F) d (core L) (tile L) cc0_scratch13
  rw [(K (F := F)).scopedBufs_V hF d (core L) (tile L), SparseCore.Cfg.scopedSems0_V (Val := Elt F) d (core L) (tile L), hRB, hRS]
  unfold Hand Args
  rw [pts_three q (m (l0 d)), pts_three q (m (l1 d)), pts_three q (m (l2 d)), pts_three q (m (l3 d))]
  simp only [scr, sems, list_two, list_one]
  have task := wp_task d L (src m d) (slotA q.left) (slotB q.right.left) (slotC q.right.right) (Memref.whole main_v0_scv) (Memref.whole main_v1_scv)
    (Memref.whole cc0_scratch12) (Memref.whole cc0_scratch13) cc0_scoped0 cc0_scoped1
    (Memref.isWhole_whole _) (Memref.isWhole_whole _) (Memref.isWhole_whole _) (Memref.isWhole_whole _) (Memref.isWhole_whole _)
    (Memref.isWhole_whole _) (Memref.isWhole_whole _) (Memref.isWhole_whole _) (Memref.isWhole_whole _) (Memref.isWhole_whole _)
    (Memref.isWhole_whole _) (Memref.isWhole_whole _) (Memref.isWhole_whole _) (Memref.isWhole_whole _) (Memref.isWhole_whole _)
    (Memref.isWhole_whole _) (Memref.isWhole_whole _) (Memref.isWhole_whole _) (Memref.isWhole_whole _) (Memref.isWhole_whole _)
    (hpre d) q O W
  rw [slotA_eq, slotB_eq, slotC_eq] at task
  iintro ⟨#Hlv, -, ⟨⟨⟨H0A, H0B, H0C⟩, ⟨H1A, H1B, H1C⟩, ⟨H2A, H2B, H2C⟩, ⟨H3A, H3B, H3C⟩, Ht⟩, Hrow⟩, ⟨⟨B0, B1, B2, B3, B4, B5, B6, B7, B8, B9, B10, B11, B12, B13⟩, HRB⟩, ⟨⟨S0, S1, S2, S3, S4, S5, S6, S7, S8, S9, S10, S11, S12, S13⟩, HRS⟩, HO⟩
  ihave Hmw := (show levAts (K (F := F)).L (K (F := F)).lev ⊢ Transfers.MayWaits (V d (core L) (tile L)) (none : HIx 1) O from
    (K (F := F)).mayWaits_none (thr := V d (core L) (tile L)) hO) $$ Hlv
  ihave Hrow := (row_in d L f) $$ Hrow
  ihave B12 := (Entails.of_eq ha.symm) $$ B12
  ihave B13 := (Entails.of_eq h21.symm) $$ B13
  ihave Ht := (Entails.of_eq ht6.symm) $$ Ht
  iapply (wp_wand_r frame (wpE (defs₀ (F := F)) 𝒱₀ (V d (core L) (tile L)) none) Set.univ)
  isplitl [Hmw H0A B0 S0 H1A B3 S1 H2A B6 S2 H3A B9 S3 H0B B1 S4 H1B B4 S5 H2B B7 S6 H3B B10 S7 H0C B2 S8 H1C B5 S9 H2C B8 S10 H3C B11 S11 B12 Ht B13 Hrow S12 S13 HO]
  · iapply task
    isplitl [Hmw]; · iexact Hmw
    isplitl [H0A B0 S0 H1A B3 S1 H2A B6 S2 H3A B9 S3]
    · isplitl [H0A B0 S0]
      · isplitl [H0A]; · iexact H0A
        isplitl [B0]; · iexact B0
        iexact S0
      isplitl [H1A B3 S1]
      · isplitl [H1A]; · iexact H1A
        isplitl [B3]; · iexact B3
        iexact S1
      isplitl [H2A B6 S2]
      · isplitl [H2A]; · iexact H2A
        isplitl [B6]; · iexact B6
        iexact S2
      isplitl [H3A]; · iexact H3A
      isplitl [B9]; · iexact B9
      iexact S3
    isplitl [H0B B1 S4 H1B B4 S5 H2B B7 S6 H3B B10 S7]
    · isplitl [H0B B1 S4]
      · isplitl [H0B]; · iexact H0B
        isplitl [B1]; · iexact B1
        iexact S4
      isplitl [H1B B4 S5]
      · isplitl [H1B]; · iexact H1B
        isplitl [B4]; · iexact B4
        iexact S5
      isplitl [H2B B7 S6]
      · isplitl [H2B]; · iexact H2B
        isplitl [B7]; · iexact B7
        iexact S6
      isplitl [H3B]; · iexact H3B
      isplitl [B10]; · iexact B10
      iexact S7
    isplitl [H0C B2 S8 H1C B5 S9 H2C B8 S10 H3C B11 S11]
    · isplitl [H0C B2 S8]
      · isplitl [H0C]; · iexact H0C
        isplitl [B2]; · iexact B2
        iexact S8
      isplitl [H1C B5 S9]
      · isplitl [H1C]; · iexact H1C
        isplitl [B5]; · iexact B5
        iexact S9
      isplitl [H2C B8 S10]
      · isplitl [H2C]; · iexact H2C
        isplitl [B8]; · iexact B8
        iexact S10
      isplitl [H3C]; · iexact H3C
      isplitl [B11]; · iexact B11
      iexact S11
    isplitl [B12]; · iexact B12
    isplitl [Ht]; · iexact Ht
    isplitl [B13]; · iexact B13
    isplitl [Hrow]; · iexact Hrow
    isplitl [S12]; · iexact S12
    isplitl [S13]; · iexact S13
    unfold Ow
    iexists W
    isplitr; · ipureintro; exact fun p hp => .inl hp
    iexact HO
  iintro %_ ⟨⟨⟨H0A, B0, S0⟩, ⟨H1A, B3, S1⟩, ⟨H2A, B6, S2⟩, ⟨H3A, B9, S3⟩⟩, ⟨⟨H0B, B1, S4⟩, ⟨H1B, B4, S5⟩, ⟨H2B, B7, S6⟩, ⟨H3B, B10, S7⟩⟩, ⟨⟨H0C, B2, S8⟩, ⟨H1C, B5, S9⟩, ⟨H2C, B8, S10⟩, ⟨H3C, B11, S11⟩⟩, B12, Ht, B13, Hrow, S12, S13, HO⟩
  ihave B12 := (Entails.of_eq ha) $$ B12
  ihave B13 := (Entails.of_eq h21) $$ B13
  ihave Ht := (Entails.of_eq ht6) $$ Ht
  ihave Hrow := (row_out d L _ (parts m d) hrun) $$ Hrow
  isplitl [H0A H0B H0C H1A H1B H1C H2A H2B H2C H3A H3B H3C Ht Hrow]
  · isplitr [Hrow]
    · isplitl [H0A H0B H0C]
      · isplitl [H0A]; · iexact H0A
        isplitl [H0B]; · iexact H0B
        iexact H0C
      isplitl [H1A H1B H1C]
      · isplitl [H1A]; · iexact H1A
        isplitl [H1B]; · iexact H1B
        iexact H1C
      isplitl [H2A H2B H2C]
      · isplitl [H2A]; · iexact H2A
        isplitl [H2B]; · iexact H2B
        iexact H2C
      isplitl [H3A H3B H3C]
      · isplitl [H3A]; · iexact H3A
        isplitl [H3B]; · iexact H3B
        iexact H3C
      iexact Ht
    · iexact Hrow
  isplitl [B0 B1 B2 B3 B4 B5 B6 B7 B8 B9 B10 B11 B12 B13 HRB]
  · isplitr [HRB]
    · isplitl [B0]; · iexact B0
      isplitl [B1]; · iexact B1
      isplitl [B2]; · iexact B2
      isplitl [B3]; · iexact B3
      isplitl [B4]; · iexact B4
      isplitl [B5]; · iexact B5
      isplitl [B6]; · iexact B6
      isplitl [B7]; · iexact B7
      isplitl [B8]; · iexact B8
      isplitl [B9]; · iexact B9
      isplitl [B10]; · iexact B10
      isplitl [B11]; · iexact B11
      isplitl [B12]; · iexact B12
      iexact B13
    · iexact HRB
  isplitl [S0 S1 S2 S3 S4 S5 S6 S7 S8 S9 S10 S11 S12 S13 HRS]
  · isplitr [HRS]
    · isplitl [S0]; · iexact S0
      isplitl [S1]; · iexact S1
      isplitl [S2]; · iexact S2
      isplitl [S3]; · iexact S3
      isplitl [S4]; · iexact S4
      isplitl [S5]; · iexact S5
      isplitl [S6]; · iexact S6
      isplitl [S7]; · iexact S7
      isplitl [S8]; · iexact S8
      isplitl [S9]; · iexact S9
      isplitl [S10]; · iexact S10
      isplitl [S11]; · iexact S11
      isplitl [S12]; · iexact S12
      iexact S13
    · iexact HRS
  unfold Ow
  iexact HO

/-! ## The payloads -/

/-- The share of what is read that SparseCore `c` is started with. -/
def qc (c : Fin ((K (F := F)).nCore 0)) : PosShare TreeShare := Transfers.dealOf fullShare Finset.univ c
/-- The share its tile `i` is handed. -/
def qt (c : Fin ((K (F := F)).nCore 0)) (i : Fin ((K (F := F)).nSub 0)) : PosShare TreeShare := Transfers.dealOf (qc c) Finset.univ i

/-- The rows of the tiles of SparseCore `n`. -/
def halfSet (n : ℕ) : Finset S32x65536.Idx := Finset.univ.filter fun x => (x 0).val / 16 = n

/-- What a SparseCore is started with: its share of what is read, and its tiles' rows at `f`. -/
def Start (d : Dev nD) (c : Fin ((K (F := F)).nCore 0)) (f : Buf (Elt F) (lp d)) : sProp 𝕄 :=
  iprop(Args m d (qc c) ∗ (lp d ↦[halfSet c.val]{fullShare} f))

/-- What the call's threads hand one another. -/
def P : (K (F := F)).Pay (nD := nD) (Val := Elt F) (Name := ℕ) (U := UU) where
  st := fun q d c => match q with | 0 => Start m d c (m (lp d))
  dn := fun q d c => match q with | 0 => Start m d c (parts m d : Buf (Elt F) (lp d))
  go := fun q d c i => match q with | 0 => Hand m d (qt c i) (16 * c.val + i.val) (m (lp d))
  td := fun q d c i => match q with | 0 => Hand m d (qt c i) (16 * c.val + i.val) (parts m d : Buf (Elt F) (lp d))
  x := fun _ _ => iprop(emp)

instance args_storable (d : Dev nD) (q : PosShare TreeShare) : BI.Storable (upEmb : UEmb _ 𝕄) (Args m d q) := by
  unfold Args; infer_instance
instance hand_storable (d : Dev nD) (q : PosShare TreeShare) (n : ℕ) (f : Buf (Elt F) (lp d)) :
    BI.Storable (upEmb : UEmb _ 𝕄) (Hand m d q n f) := by
  unfold Hand; infer_instance
instance start_storable (d : Dev nD) (c : Fin ((K (F := F)).nCore 0)) (f : Buf (Elt F) (lp d)) :
    BI.Storable (upEmb : UEmb _ 𝕄) (Start m d c f) := by
  unfold Start; infer_instance

instance P_storable : (P (F := F) m).IsStorable where
  st q d c := match q with | 0 => (inferInstance : BI.Storable (upEmb : UEmb _ 𝕄) (Start m d c (m (lp d))))
  dn q d c := match q with | 0 => (inferInstance : BI.Storable (upEmb : UEmb _ 𝕄) (Start m d c (parts m d : Buf (Elt F) (lp d))))
  go q d c i := match q with
    | 0 => (inferInstance : BI.Storable (upEmb : UEmb _ 𝕄) (Hand m d (qt c i) (16 * c.val + i.val) (m (lp d))))
  td q d c i := match q with
    | 0 => (inferInstance : BI.Storable (upEmb : UEmb _ 𝕄) (Hand m d (qt c i) (16 * c.val + i.val) (parts m d : Buf (Elt F) (lp d))))

/-! ## The tiles' obligation -/

/-- A pair of SparseCore and tile as the kernel's coordinates. -/
def coordsV (c : Fin (grid0.bound 0)) (s : Fin (grid0.bound 1)) : grid0.Coords :=
  fun | 0 => c | 1 => s | ⟨_ + 2, h⟩ => absurd h (Nat.not_lt.2 (Nat.le_add_left _ _))

/-- A tile's body is the task over the whole arrays and its scratch. -/
theorem defs₀_vector (c : Fin τ.nSC) (s : Fin τ.nSub) :
    defs₀ (F := F) (.scVector c s) 0 ()
      = SparseCore.onTile hcore0 hsub0 (fun c s => cc0_body (coordsV c s)
            (Memref.whole main_arg0_scv) (Memref.isWhole_whole _) (Memref.whole main_arg1_scv) (Memref.isWhole_whole _)
            (Memref.whole main_arg2_scv) (Memref.isWhole_whole _) (Memref.whole main_arg3_scv) (Memref.isWhole_whole _)
            (Memref.whole main_v0_scv) (Memref.isWhole_whole _) (Memref.whole main_v1_scv) (Memref.isWhole_whole _)
            (Memref.whole cc0_scratch0) (Memref.isWhole_whole _) (Memref.whole cc0_scratch1) (Memref.isWhole_whole _)
            (Memref.whole cc0_scratch2) (Memref.isWhole_whole _) (Memref.whole cc0_scratch3) (Memref.isWhole_whole _)
            (Memref.whole cc0_scratch4) (Memref.isWhole_whole _) (Memref.whole cc0_scratch5) (Memref.isWhole_whole _)
            (Memref.whole cc0_scratch6) (Memref.isWhole_whole _) (Memref.whole cc0_scratch7) (Memref.isWhole_whole _)
            (Memref.whole cc0_scratch8) (Memref.isWhole_whole _) (Memref.whole cc0_scratch9) (Memref.isWhole_whole _)
            (Memref.whole cc0_scratch10) (Memref.isWhole_whole _) (Memref.whole cc0_scratch11) (Memref.isWhole_whole _)
            (Memref.whole cc0_scratch12) (Memref.isWhole_whole _) (Memref.whole cc0_scratch13) (Memref.isWhole_whole _)
            cc0_scratch14 cc0_scratch15 cc0_scratch16 cc0_scratch17 cc0_scratch18 cc0_scratch19 cc0_scratch20 cc0_scratch21
            cc0_scratch22 cc0_scratch23 cc0_scratch24 cc0_scratch25 cc0_scoped0 cc0_scoped1) ⟨⟩ c s := rfl

omit [FloatOps F] in
/-- The waits a task adds are among those the launch allows. -/
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'
  isplitr
  · ipureintro; exact fun p hp => (hW' p hp).imp_right Or.inl
  · iexact HO

set_option maxRecDepth 16384 in
/-- Every tile runs its task from what it is handed to what it hands back. -/
theorem tileObl (hpre : PreOK m) : (K (F := F)).TileObl (D (F := F)) 𝒱 (P m) v₀ 0 := by
  intro d c i O W hO _ _
  simp only [show (P m).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact (tile_body m facts hpre d (coordsV ⟨_, hci.1⟩ ⟨_, hci.2⟩) (qt c i) (m (lp d)) O W hO).trans (wp_mono frame _ _ fun _ => obl_post)

/-! ## The split among the SparseCores and the tiles -/

omit [FloatOps F] in
/-- Five arrays at a share, dealt among `n`. -/
theorem five_deal (d : Dev nD) (q : PosShare TreeShare) (n : ℕ) (hn : 0 < n) (g : Buf (Elt F) (lt d)) :
    (iprop((l0 d ↦{q} m (l0 d)) ∗ (l1 d ↦{q} m (l1 d)) ∗ (l2 d ↦{q} m (l2 d)) ∗ (l3 d ↦{q} m (l3 d)) ∗ (lt d ↦{q} g)) : sProp 𝕄)
      = bigSep Finset.univ fun i : Fin n => iprop((l0 d ↦{Transfers.dealOf q Finset.univ i} m (l0 d))
          ∗ (l1 d ↦{Transfers.dealOf q Finset.univ i} m (l1 d)) ∗ (l2 d ↦{Transfers.dealOf q Finset.univ i} m (l2 d))
          ∗ (l3 d ↦{Transfers.dealOf q Finset.univ i} m (l3 d)) ∗ (lt d ↦{Transfers.dealOf q Finset.univ i} g)) := by
  have hne : (Finset.univ : Finset (Fin n)).Nonempty := ⟨⟨0, hn⟩, Finset.mem_univ _⟩
  rw [Transfers.pointsTo_deal (ℓ := l0 d) (S := Finset.univ) (f := m (l0 d)) Finset.univ hne q,
    Transfers.pointsTo_deal (ℓ := l1 d) (S := Finset.univ) (f := m (l1 d)) Finset.univ hne q,
    Transfers.pointsTo_deal (ℓ := l2 d) (S := Finset.univ) (f := m (l2 d)) Finset.univ hne q,
    Transfers.pointsTo_deal (ℓ := l3 d) (S := Finset.univ) (f := m (l3 d)) Finset.univ hne q,
    Transfers.pointsTo_deal (ℓ := lt d) (S := Finset.univ) (f := g) Finset.univ hne q]
  simp only [bigSep_sep']

/-- What is read, dealt among `n`. -/
theorem args_deal (d : Dev nD) (q : PosShare TreeShare) (n : ℕ) (hn : 0 < n) :
    Args m d q = bigSep Finset.univ fun i : Fin n => Args m d (Transfers.dealOf q Finset.univ i) :=
  five_deal m d q n hn _

omit [FloatOps F] in
/-- A SparseCore's rows, one by one. -/
theorem half_rows (d : Dev nD) (c : ℕ) (f : Buf (Elt F) (lp d)) :
    (iprop(lp d ↦[halfSet c]{fullShare} f) : sProp 𝕄)
      = bigSep Finset.univ fun i : Fin ((K (F := F)).nSub 0) => iprop(lp d ↦[rowSet (16 * c + i.val)]{fullShare} f) := by
  have hd : ∀ i ∈ (Finset.univ : Finset (Fin ((K (F := F)).nSub 0))), ∀ k ∈ (Finset.univ : Finset (Fin ((K (F := F)).nSub 0))), i ≠ k →
      Disjoint (rowSet (16 * c + i.val)) (rowSet (16 * c + k.val)) := by
    intro i _ k _ hik
    rw [Finset.disjoint_left]
    intro x hx hy
    rw [rowSet, Finset.mem_filter] at hx hy
    exact hik (Fin.ext (by omega))
  have hu : halfSet c = Finset.univ.biUnion fun i : Fin ((K (F := F)).nSub 0) => rowSet (16 * c + i.val) := by
    ext x
    simp only [halfSet, rowSet, Finset.mem_filter, Finset.mem_univ, true_and, Finset.mem_biUnion]
    constructor
    · intro h
      exact ⟨⟨(x 0).val % 16, show (x 0).val % 16 < 16 by omega⟩, show (x 0).val = 16 * c + (x 0).val % 16 by omega⟩
    · rintro ⟨i, hi⟩
      have : i.val < 16 := i.isLt
      omega
  rw [hu]
  exact pointsTo_biUnion Finset.univ (ℓ := lp d) _ hd

omit [FloatOps F] in
/-- The partial sums, half by half. -/
theorem all_halves (d : Dev nD) (f : Buf (Elt F) (lp d)) :
    (iprop(lp d ↦{fullShare} f) : sProp 𝕄)
      = bigSep Finset.univ fun c : Fin ((K (F := F)).nCore 0) => iprop(lp d ↦[halfSet c.val]{fullShare} f) := by
  have hd : ∀ i ∈ (Finset.univ : Finset (Fin ((K (F := F)).nCore 0))), ∀ k ∈ (Finset.univ : Finset (Fin ((K (F := F)).nCore 0))), i ≠ k →
      Disjoint (halfSet i.val) (halfSet k.val) := by
    intro i _ k _ hik
    rw [Finset.disjoint_left]
    intro x hx hy
    rw [halfSet, Finset.mem_filter] at hx hy
    exact hik (Fin.ext (by omega))
  have hu : (Finset.univ : Finset (Idx (lp d))) = Finset.univ.biUnion fun c : Fin ((K (F := F)).nCore 0) => halfSet c.val := by
    refine Eq.symm (Finset.eq_univ_iff_forall.mpr fun (x : S32x65536.Idx) => ?_)
    have hx : (x 0).val < 32 := (x 0).isLt
    simp only [halfSet, Finset.mem_filter, Finset.mem_univ, true_and, Finset.mem_biUnion]
    exact ⟨⟨(x 0).val / 16, show (x 0).val / 16 < 2 by omega⟩, rfl⟩
  rw [hu]
  exact pointsTo_biUnion Finset.univ (ℓ := lp d) _ hd

/-- What a SparseCore is started with is what its tiles are handed. -/
theorem start_eq (d : Dev nD) (c : Fin ((K (F := F)).nCore 0)) (f : Buf (Elt F) (lp d)) :
    Start m d c f = bigSep Finset.univ fun i : Fin ((K (F := F)).nSub 0) => Hand m d (qt c i) (16 * c.val + i.val) f := by
  unfold Start Hand
  rw [args_deal m d (qc c) ((K (F := F)).nSub 0) (show 0 < 16 by decide), half_rows, bigSep_sep']
  rfl

/-- What the call takes is what its SparseCores are started with. -/
theorem call_eq (d : Dev nD) (f : Buf (Elt F) (lp d)) :
    iprop(Args m d fullShare ∗ (lp d ↦{fullShare} f)) = bigSep Finset.univ fun c : Fin ((K (F := F)).nCore 0) => Start m d c f := by
  unfold Start
  rw [args_deal m d fullShare ((K (F := F)).nCore 0) (show 0 < 2 by decide), all_halves, bigSep_sep']
  rfl

/-- A SparseCore deals its tiles what it was started with and joins what they hand back. -/
theorem vecSplit : (K (F := F)).VecSplit' (P m) 0 := by
  intro d c
  show Start m d c (m (lp d)) ⊢ |={Set.univ}=> iprop(
      (bigSep Finset.univ fun i : Fin ((K (F := F)).nSub 0) => Hand m d (qt c i) (16 * c.val + i.val) (m (lp d)))
      ∗ ((bigSep Finset.univ fun i : Fin ((K (F := F)).nSub 0) => Hand m d (qt c i) (16 * c.val + i.val) (parts m d : Buf (Elt F) (lp d)))
          -∗ Start m d c (parts m d : Buf (Elt F) (lp d))))
  rw [← start_eq, ← start_eq]
  iintro H
  imodintro
  isplitl [H]; · iexact H
  iintro H
  iexact H

end Cert.Proof.Pool

end
-- ==== Proof.Fold.lean ====
/-
  The TensorCore's part: its kernel adds the thirty-two rows of partial sums, keeps the first 5120 of the sums as the sum pool, and
  the maximum of the ten blocks of 5120 that follow as the max pool.
-/
module

public import proofs.«01_k».proof.Proof.Launch
public import proofs.«01_k».proof.Proof.Gen.KernelIdeal.Launch
public import proofs.«01_k».proof.Proof.Gen.KernelIdeal.Points
public import Idealize.ShloMosaic.Lib.Pipeline.Regions
public import Idealize.ShloMosaic.Lib.Pipeline.Value

@[expose] public section

noncomputable section

namespace Cert.Proof.Pool

open Cert.KernelIdeal Cert.KernelIdeal.Gen Cert.Proof.Events

open Idealize.ShloMosaic
open Idealize.ShloMosaic.SparseCore (S V)
open Idealize.ShloMosaic.SparseCore.Cfg (HIx Pay ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type}

local notation "𝕄" => MT nD τ sig (HIx 1) (Elt F) ℕ UU ℕ

/-! ## What the kernel computes -/

/-- The element of the partial sums in row `r` at place `k`. -/
def cell (r : ℕ) (k : Fin 65536) : S32x65536.Idx := fun | ⟨0, _⟩ => ⟨r % 32, Nat.mod_lt _ (by decide)⟩ | ⟨1, _⟩ => k

/-- Row `r` of the partial sums `A`, as a one-row array. -/
def rowv (A : S32x65536.Idx → F .f32) (r : ℕ) : Vec F S1x65536 .f32 := fun x => A (cell r (x 1))

variable [FloatOps F]

/-- The sum of rows `0` to `k` of `A`. -/
def sumTo (A : S32x65536.Idx → F .f32) : ℕ → FVec F S65536 .f32
  | 0 => shapeCast S65536 (rowv A 0) shapeCasts_S1x65536_S65536
  | k + 1 => addf (sumTo A k) (shapeCast S65536 (rowv A (k + 1)) shapeCasts_S1x65536_S65536)

omit [FloatOps F] in
/-- The 5120 elements of `v` from `o` on. -/
def cut (v : FVec F S65536 .f32) (o : ℕ) : FVec F S5120 .f32 :=
  fun j => v fun | ⟨0, _⟩ => ⟨(o + (j 0).val) % 65536, Nat.mod_lt _ (by decide)⟩

/-- The maximum of the blocks of 5120 of `v` numbered `1` to `k + 1`. -/
def maxTo (v : FVec F S65536 .f32) : ℕ → FVec F S5120 .f32
  | 0 => cut v 5120
  | k + 1 => maximumf (maxTo v k) (cut v (5120 * (k + 2)))

omit [FloatOps F] in
/-- A slice of 5120 elements inside the array is the elements from its offset on. -/
theorem slice_cut (o : ℕ) (h : S65536.Slices ![o] S5120) (ho : o + 5120 ≤ 65536) (v : FVec F S65536 .f32) :
    extractStridedSlice S5120 ![o] v h = cut v o := by
  funext j
  refine congrArg v (funext fun a => ?_)
  match a with
  | ⟨0, _⟩ =>
    have hj : (j 0).val < 5120 := (j 0).isLt
    exact Fin.ext (show o + (j 0).val = (o + (j 0).val) % 65536 by omega)

section Thread

variable (d : Dev nD)

omit [FloatOps F] in
/-- What is read of one row. -/
theorem read_row (b : Memref sig .tc .vmem S32x65536 .f32) (A : S32x65536.Idx → F .f32) (r : ℕ) (hr : r < 32)
    (ho : ∀ x, (![r, 0] : Fin 2 → ℕ) x + S1x65536.size x ≤ S32x65536.size x)
    (f : Buf (Elt F) (b.view.loc (SparseCore.T d : Thread nD τ))) (hf : b.view.read (Elt F) f = A) :
    b.view.readAt (Elt F) (Rect.unit (s := S32x65536) ![r, 0] S1x65536.size ho).toLoadRect f = rowv A r := by
  subst hf
  funext x
  refine congrArg (b.view.read (Elt F) f) (funext fun a => ?_)
  match a with
  | ⟨0, _⟩ =>
    have hx : (x 0).val < 1 := (x 0).isLt
    exact Fin.ext (show r + 1 * (x 0).val = r % 32 by omega)
  | ⟨1, _⟩ => exact Fin.ext (show 0 + 1 * (x 1).val = (x 1).val by omega)

/-- The load of one row. -/
theorem wp_row (b : Memref sig .tc .vmem S32x65536 .f32) (A : S32x65536.Idx → F .f32) (r : ℕ)
    (ho : ∀ x, (![r, 0] : Fin 2 → ℕ) x + S1x65536.size x ≤ S32x65536.size x)
    (k : Vec F S1x65536 .f32 → Prog (TpuEff nD τ sig (Elt F) Λ₀ .tc) PUnit) (Q : PUnit → sProp 𝕄) :
    (owns (SparseCore.T d : Thread nD τ) b fullShare A : sProp 𝕄)
      ⊢ iprop((owns (SparseCore.T d : Thread nD τ) b fullShare A -∗ wp frame (wpE (defs₀ (F := F)) 𝒱₀ (SparseCore.T d) none) Set.univ (k (rowv A r)) Q)
          -∗ wp frame (wpE (defs₀ (F := F)) 𝒱₀ (SparseCore.T d) none) Set.univ
            (.op (.load b (Rect.unit (s := S32x65536) ![r, 0] S1x65536.size ho).toLoadRect (View.loadsAt_vmem h_S1x65536)) k) Q) := by
  have hr : r < 32 := by have := ho 0; change r + 1 ≤ 32 at this; omega
  have hsub : b.view.setOn (Rect.unit (s := S32x65536) ![r, 0] S1x65536.size ho).toLoadRect.set ⊆ b.view.set :=
    Finset.map_subset_map.mpr (Finset.subset_univ _)
  unfold owns
  iintro ⟨%f, %hf, H⟩ Hk
  iapply (wp_load 𝒱₀ (SparseCore.T d : Thread nD τ) none Set.univ (m := b) hsub) $$ H
  iintro H
  rw [read_row d b A r hr ho f hf]
  iapply Hk
  iexists f
  isplitr
  · ipureintro; exact hf
  iexact H

/-- A result's old contents are read and not used. -/
theorem wp_peek (b : Memref sig .tc .vmem S5120 .f32) (X : S5120.Idx → F .f32)
    (ho : ∀ x, (![0] : Fin 1 → ℕ) x + S5120.size x ≤ S5120.size x)
    (k : Prog (TpuEff nD τ sig (Elt F) Λ₀ .tc) PUnit) (Q : PUnit → sProp 𝕄) :
    (owns (SparseCore.T d : Thread nD τ) b fullShare X : sProp 𝕄)
      ⊢ iprop((owns (SparseCore.T d : Thread nD τ) b fullShare X -∗ wp frame (wpE (defs₀ (F := F)) 𝒱₀ (SparseCore.T d) none) Set.univ k Q)
          -∗ wp frame (wpE (defs₀ (F := F)) 𝒱₀ (SparseCore.T d) none) Set.univ
            (.op (.load b (Rect.unit (s := S5120) ![0] S5120.size ho).toLoadRect (View.loadsAt_vmem h_S5120)) fun _ => k) Q) := by
  have hsub : b.view.setOn (Rect.unit (s := S5120) ![0] S5120.size ho).toLoadRect.set ⊆ b.view.set :=
    Finset.map_subset_map.mpr (Finset.subset_univ _)
  unfold owns
  iintro ⟨%f, %hf, H⟩ Hk
  iapply (wp_load 𝒱₀ (SparseCore.T d : Thread nD τ) none Set.univ (m := b) hsub) $$ H
  iintro H
  iapply Hk
  iexists f
  isplitr
  · ipureintro; exact hf
  iexact H

/-- A result is stored whole. -/
theorem wp_put (b : Memref sig .tc .vmem S5120 .f32) (X v : S5120.Idx → F .f32)
    (ho : ∀ x, (![0] : Fin 1 → ℕ) x + S5120.size x ≤ S5120.size x)
    (k : PUnit → Prog (TpuEff nD τ sig (Elt F) Λ₀ .tc) PUnit) (Q : PUnit → sProp 𝕄) :
    (owns (SparseCore.T d : Thread nD τ) b fullShare X : sProp 𝕄)
      ⊢ iprop((owns (SparseCore.T d : Thread nD τ) b fullShare v -∗ wp frame (wpE (defs₀ (F := F)) 𝒱₀ (SparseCore.T d) none) Set.univ (k ⟨⟩) Q)
          -∗ wp frame (wpE (defs₀ (F := F)) 𝒱₀ (SparseCore.T d) none) Set.univ
            (.op (.store b (Rect.unit (s := S5120) ![0] S5120.size ho) v Finset.univ (View.stores_vmem_bits_univ h_S5120 rfl) (.inl rfl)) k) Q) := by
  have hsub : (b.access (Rect.unit (s := S5120) ![0] S5120.size ho)).setOn Finset.univ ⊆ b.view.set :=
    View.set_slice_subset b.view (Rect.unit (s := S5120) ![0] S5120.size ho)
  unfold owns
  iintro ⟨%f, %hf, H⟩ Hk
  iapply (wp_store 𝒱₀ (SparseCore.T d : Thread nD τ) none Set.univ (m := b) (r := Rect.unit (s := S5120) ![0] S5120.size ho) (S := b.view.set) (f := f) hsub) $$ H
  iintro H
  iapply Hk
  iexists _
  isplitr
  swap; · iexact H
  ipureintro
  funext y
  have hy : (Rect.unit (s := S5120) ![0] S5120.size ho).emb y = y := funext fun a => match a with
    | ⟨0, _⟩ => Fin.ext (show 0 + 1 * (y 0).val = (y 0).val by omega)
  have h := View.read_slice_write_emb (v := b.view) (Rect.unit (s := S5120) ![0] S5120.size ho) f v (Finset.mem_univ y)
  rw [hy] at h
  exact h

set_option maxRecDepth 16384 in
set_option pp.maxSteps 150 in
/-- The kernel leaves the rows' sum's first block and the maximum of the ten that follow. -/
theorem wp_fold (b0 : Memref sig .tc .vmem S32x65536 .f32) (h0 : b0.IsWhole) (b1 : Memref sig .tc .vmem S5120 .f32) (h1 : b1.IsWhole)
    (b2 : Memref sig .tc .vmem S5120 .f32) (h2 : b2.IsWhole) (A : S32x65536.Idx → F .f32) (X1 X2 : S5120.Idx → F .f32) :
    (iprop(owns (SparseCore.T d : Thread nD τ) b0 fullShare A ∗ owns (SparseCore.T d : Thread nD τ) b1 fullShare X1
        ∗ owns (SparseCore.T d : Thread nD τ) b2 fullShare X2) : sProp 𝕄)
      ⊢ wp frame (wpE (defs₀ (F := F)) 𝒱₀ (SparseCore.T d) none) Set.univ (cc1_body (F := F) b0 h0 b1 h1 b2 h2)
          fun _ => iprop(owns (SparseCore.T d : Thread nD τ) b0 fullShare A
            ∗ owns (SparseCore.T d : Thread nD τ) b1 fullShare (cut (sumTo A 31) 0)
            ∗ owns (SparseCore.T d : Thread nD τ) b2 fullShare (maxTo (sumTo A 31) 9)) := by
  unfold cc1_body
  simp only [k1_part1_eq_skeleton, k1_part1_skel, k1_part2_eq_skeleton, k1_part2_skel, k1_part3_eq_skeleton, k1_part3_skel,
    Prog.lift, Prog.bind_op, Prog.bind_ret, Prog.pure_eq_ret]
  iintro ⟨H0, H1, H2⟩
  iterate 32
    iapply (wp_row d b0 A) $$ H0
    iintro H0
  iapply (wp_peek d b1) $$ H1
  iintro H1
  iapply (wp_put d b1) $$ H1
  iintro H1
  iapply (wp_peek d b2) $$ H2
  iintro H2
  iapply (wp_put d b2) $$ H2
  iintro H2
  rw [wp_ret]
  imodintro
  isplitl [H0]; · iexact H0
  have e : k1_pay4 (k1_pay3 (k1_pay2 (rowv A 0) (rowv A 1) (rowv A 2) (rowv A 3) (rowv A 4) (rowv A 5) (rowv A 6) (rowv A 7) (rowv A 8) (rowv A 9)
      (rowv A 10) (rowv A 11)) (rowv A 12) (rowv A 13) (rowv A 14) (rowv A 15) (rowv A 16) (rowv A 17) (rowv A 18) (rowv A 19) (rowv A 20)
      (rowv A 21) (rowv A 22) (rowv A 23)) (rowv A 24) (rowv A 25) (rowv A 26) (rowv A 27) (rowv A 28) (rowv A 29) (rowv A 30) (rowv A 31)
      = sumTo A 31 := rfl
  have e5 := slice_cut 0 slices_S65536_o0_S5120 (by decide) (sumTo A 31)
  have e6 : maximumf (k1_pay6 (k1_pay3 (k1_pay2 (rowv A 0) (rowv A 1) (rowv A 2) (rowv A 3) (rowv A 4) (rowv A 5) (rowv A 6) (rowv A 7) (rowv A 8) (rowv A 9)
      (rowv A 10) (rowv A 11)) (rowv A 12) (rowv A 13) (rowv A 14) (rowv A 15) (rowv A 16) (rowv A 17) (rowv A 18) (rowv A 19) (rowv A 20)
      (rowv A 21) (rowv A 22) (rowv A 23)) (rowv A 24) (rowv A 25) (rowv A 26) (rowv A 27) (rowv A 28) (rowv A 29) (rowv A 30) (rowv A 31))
      (extractStridedSlice S5120 ![51200] (sumTo A 31) slices_S65536_o51200_S5120) = maxTo (sumTo A 31) 9 := by
    simp only [k1_pay6, e, maxTo, slice_cut _ _ (show 5120 + 5120 ≤ 65536 by decide), slice_cut _ _ (show 10240 + 5120 ≤ 65536 by decide),
      slice_cut _ _ (show 15360 + 5120 ≤ 65536 by decide), slice_cut _ _ (show 20480 + 5120 ≤ 65536 by decide),
      slice_cut _ _ (show 25600 + 5120 ≤ 65536 by decide), slice_cut _ _ (show 30720 + 5120 ≤ 65536 by decide),
      slice_cut _ _ (show 35840 + 5120 ≤ 65536 by decide), slice_cut _ _ (show 40960 + 5120 ≤ 65536 by decide),
      slice_cut _ _ (show 46080 + 5120 ≤ 65536 by decide), slice_cut _ _ (show 51200 + 5120 ≤ 65536 by decide)]
  isplitl [H1]
  · rw [← e5, ← e]; iexact H1
  · rw [← e6, ← e]; iexact H2

end Thread

end Cert.Proof.Pool

end
-- ==== Proof.Region.lean ====
/-
  The TensorCore's kernel as a step of @main: its pipeline fetches the partial sums whole, runs the kernel once and writes both
  pools back.
-/
module

public import proofs.«01_k».proof.Proof.Fold
public import Idealize.ShloMosaic.Lib.SparseCore.Quiescent
public import Idealize.ShloMosaic.Lib.Pipeline.ValueKit.Geometry

@[expose] public section

noncomputable section

namespace Cert.Proof.Pool

open Cert.KernelIdeal Cert.KernelIdeal.Gen Cert.Proof.Events

open Idealize.ShloMosaic
open Idealize.ShloMosaic.SparseCore (S V)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type}

local notation "𝕄" => MT nD τ sig (HIx 1) (Elt F) ℕ UU ℕ

variable [FloatOps F] (A : S32x65536.Idx → F .f32) (m : (ℓ : Loc nD τ sig) → Buf (Elt F) ℓ)

/-- The sum pool's padded array. -/
abbrev ls (d : Dev nD) : Loc nD τ sig := (SparseCore.T d : Thread nD τ).loc main_v2_0
/-- The max pool's padded array. -/
abbrev lx (d : Dev nD) : Loc nD τ sig := (SparseCore.T d : Thread nD τ).loc main_v2_1

/-- The sum pool of the partial sums `A`, padded to 5120 buckets. -/
def sums : FVec F S5120 .f32 := cut (sumTo A 31) 0
/-- The max pool of the partial sums `A`, padded to 5120 buckets. -/
def maxes : FVec F S5120 .f32 := maxTo (sumTo A 31) 9

/-- What each window's array holds as the kernel is called. -/
def entryA (d : Dev nD) : (w : Fin 3) → Buf (Elt F) ((cfg1.win w).arr.view.loc (d.tc : Thread nD τ))
  | 0 => A
  | 1 => m (ls d)
  | 2 => m (lx d)

/-- What each window's staging buffer holds as the kernel returns. -/
def leftA : (w : Fin 3) → (cfg1.win w).block.Idx → Elt F (cfg1.win w).elt
  | 0 => A
  | 1 => sums A
  | 2 => maxes A

/-- The waits @main has recorded by the time the kernel is called, or records in it: those at the call's levels. -/
def low (d : Dev nD) : Set (SemLoc sig × HIx 1) := {p | (K (F := F)).lev ((SparseCore.T d : Thread nD τ), p.1) p.2 ≤ 8 * 1}

/-- The pipeline's data: the arrays at entry, the staging buffers as the kernel leaves them, nothing owed. -/
def foldDat (d : Dev nD) : Pipeline.Dat τ (Elt F) (HIx 1) ℕ UU ℕ cfg1 d where
  A := entryA A m d
  after w _ := leftA A w
  Φ _ := iprop(emp)
  q _ := fullShare
  owed _ := 0
  recorded _ := low (F := F) d

/-- The tables the pipeline prefetches: it has none. -/
abbrev adm : (p : Fin 1) → (pcfgs (F := F) p).Adm := fun p => (cfgs p).toPCfg_adm

/-- The one pipeline's data. -/
def pdats (m : (ℓ : Loc nD τ sig) → Buf (Elt F) ℓ) : (p : Fin 1) → (c : Dev nD) → Pipeline.Dat τ (Elt F) (HIx 1) ℕ UU ℕ (Pipeline.pin (pcfgs (F := F)) adm p) c
  | 0 => fun d => foldDat (parts m d) m d

/-- The staging buffer of the fetched window holds the partial sums. -/
theorem before_rows (d : Dev nD) (x : (cfg1.win (0 : Fin 3)).block.Idx → Elt F (cfg1.win (0 : Fin 3)).elt) :
    (foldDat A m d).before (0 : Fin 3) t1_0 x = A := by
  unfold Pipeline.Dat.before
  rw [if_pos (fetch1_0 _)]
  unfold Pipeline.Dat.fetched
  funext j
  have hm : (cfg1.win (0 : Fin 3)).moved (cfg1.grid.coords t1_0) j = true :=
    ((cfg1.win (0 : Fin 3)).moved_iff _ j).mpr fun a => (j a).isLt
  unfold Pipeline.Window.fill
  rw [dif_pos hm]
  show A _ = A j
  refine congrArg A (funext fun a => Fin.ext ?_)
  exact Pipeline.Window.rect_emb_val_of_index_zero (cfg1.win (0 : Fin 3)) t1_0 a
    ((by decide : ∀ a : Fin 2, (cfg1.win (0 : Fin 3)).index t1_0 a = 0) a) _

/-- The kernel meets what the pipeline asks of its body. -/
theorem fold_body (d : Dev nD) : Pipeline.BodyObligation (foldDat (F := F) A m d) (defs₀ (F := F)) 𝒱₀ (none : HIx 1) Set.univ := fun t => by
  obtain rfl := fin_N1 t
  rw [bigSep_W1, bigSep_W1]
  rw [show (foldDat A m d).owesAt (none : HIx 1) t1_0.succ = (foldDat A m d).owesAt none t1_0.castSucc from rfl]
  iintro ⟨-, HO, ⟨%x0, H0⟩, ⟨%x1, H1⟩, ⟨%x2, H2⟩⟩
  rw [before_rows A m d x0]
  iapply (wp_wand_r frame _ Set.univ)
  isplitl [H0 H1 H2]
  · iapply (wp_fold d _ _ _ _ _ _ (A) ((foldDat A m d).before (1 : Fin 3) t1_0 x1) ((foldDat A m d).before (2 : Fin 3) t1_0 x2))
    isplitl [H0]; · iexact H0
    isplitl [H1]; · iexact H1
    iexact H2
  · iintro %_ ⟨H0, H1, H2⟩
    isplitr; · iempintro
    isplitl [HO]; · iexact HO
    isplitl [H0]; · iexact H0
    isplitl [H1]; · iexact H1
    iexact H2

/-- The three windows' arrays, one by one. -/
theorem arrays_split (d : Dev nD) (G : (w : Fin 3) → Buf (Elt F) ((cfg1.win w).arr.view.loc (d.tc : Thread nD τ))) :
    ((foldDat A m d).arrays G : sProp 𝕄)
      = iprop((lp d ↦{fullShare} (G 0 : Buf (Elt F) (lp d))) ∗ (ls d ↦{fullShare} (G 1 : Buf (Elt F) (ls d)))
          ∗ (lx d ↦{fullShare} (G 2 : Buf (Elt F) (lx d)))) := by
  unfold Pipeline.Dat.arrays
  rw [bigSep_W1, (arr_whole1 0).set_eq_univ, (arr_whole1 1).set_eq_univ, (arr_whole1 2).set_eq_univ]
  rfl

/-- The partial sums stay. -/
theorem rows_kept (d : Dev nD) : (foldDat A m d).arrAt (0 : Fin 3) cfg1.N = A :=
  (foldDat A m d).arrAt_in (0 : Fin 3) rfl _

/-- The sum pool is written back whole. -/
theorem sums_left (d : Dev nD) : (foldDat A m d).arrAt (1 : Fin 3) cfg1.N = sums A :=
  (foldDat A m d).arrAt_eq_of_after_last (1 : Fin 3) t1_0 (by decide +kernel) (sums A) fun j => rfl

/-- The max pool is written back whole. -/
theorem maxes_left (d : Dev nD) : (foldDat A m d).arrAt (2 : Fin 3) cfg1.N = maxes A :=
  (foldDat A m d).arrAt_eq_of_after_last (2 : Fin 3) t1_0 (by decide +kernel) (maxes A) fun j => rfl

/-- @main's thread owes nothing and has recorded only low waits. -/
def Calm (d : Dev nD) : sProp 𝕄 :=
  iprop(∃ W, ⌜(K (F := F)).WBelow (SparseCore.T d : Thread nD τ) W (8 * 1)⌝ ∗ owes (SparseCore.T d : Thread nD τ) (0 : CellTallies nD τ sig (HIx 1)) W)

/-- A calm thread enters the pipeline, -/
theorem calm_in (d : Dev nD) (t : Fin (cfg1.N + 1)) : (Calm (F := F) d : sProp 𝕄) ⊢ (foldDat A m d).owesAt (none : HIx 1) t := by
  unfold Calm Pipeline.Dat.owesAt Pipeline.owesWithin Pipeline.Dat.bound
  iintro ⟨%W, %hW, HO⟩
  iexists W
  isplitr
  · ipureintro; exact fun p hp => Or.inl (hW p hp)
  iexact HO

/-- and leaves it calm: the pipeline's own waits are at level zero. -/
theorem calm_out (d : Dev nD) (t : Fin (cfg1.N + 1)) : (foldDat A m d).owesAt (none : HIx 1) t ⊢ (Calm (F := F) d : sProp 𝕄) := by
  unfold Calm Pipeline.Dat.owesAt Pipeline.owesWithin Pipeline.Dat.bound
  iintro ⟨%W, %hW, HO⟩
  iexists W
  isplitr
  · ipureintro
    intro p hp
    rcases hW hp with h | ⟨w, s, h⟩
    · exact h
    · subst h; exact Nat.zero_le _
  iexact HO

/-- Nothing is held of no things. -/
theorem none_held {M : Type} [URA M] (Φ : Fin 0 → sProp M) : bigSep Finset.univ Φ = (iprop(emp) : sProp M) :=
  bigSep_univ_eq_bigSepL [] (by decide) (by decide) Φ

/-- No prefetched table is held. -/
theorem no_tables (d : Dev nD) (q) (v) :
    (Pipeline.prefHeld (Ix := HIx 1) (Name := ℕ) (U := UU) (Lvl := ℕ) (Val := Elt F) (pcfgs (F := F) 0).pre d q v : sProp 𝕄) = iprop(emp) :=
  none_held _

/-- The kernel's call: from the partial sums to both pools. -/
def foldSeg : Pipeline.RegionSeg (pcfgs (F := F)) adm (pdats m) (none : HIx 1) defs₀ 𝒱₀ (K (F := F)).L (K (F := F)).lev 0 where
  win := winFacts1.to₀
  block_pos := block_pos1
  stage_whole := stage_whole1
  K := PEmpty
  osem k := k.elim
  ho := Pipeline.OwnSemFacts.none _
  hbody d := (fold_body (parts m d) m d).loose
  hwaits := Pipeline.hwaits_of_owed_zero _ _ _ _ _ _ 0 fun _ _ => rfl
  pre d := iprop((lp d ↦{fullShare} (parts m d : Buf (Elt F) (lp d))) ∗ (ls d ↦{fullShare} m (ls d)) ∗ (lx d ↦{fullShare} m (lx d)) ∗ Calm d)
  post d := iprop((lp d ↦{fullShare} (parts m d : Buf (Elt F) (lp d))) ∗ (ls d ↦{fullShare} (sums (parts m d) : Buf (Elt F) (ls d)))
    ∗ (lx d ↦{fullShare} (maxes (parts m d) : Buf (Elt F) (lx d))) ∗ Calm d)
  X _ := iprop(emp)
  Y _ := iprop(emp)
  Z _ := iprop(emp)
  hentry d := by
    rw [show (pdats m 0 d).arrays ((pdats m 0 d).arrAt · 0) = (foldDat (parts m d) m d).arrays (entryA (parts m d) m d) from rfl, arrays_split]
    iintro ⟨⟨Hp, Hs, Hx, HC⟩, -, -⟩
    imodintro
    isplitl [Hp Hs Hx]
    · isplitl [Hp]; · iexact Hp
      isplitl [Hs]; · iexact Hs
      iexact Hx
    isplitr
    · iapply (Entails.of_eq (no_tables d _ _).symm); iempintro
    isplitl [HC]; · iapply (calm_in (parts m d) m d 0); iexact HC
    isplitr <;> iempintro
  hin d := by
    iintro -
    iapply (Entails.of_eq (show (iprop(emp) : sProp 𝕄) = (pdats m 0 d).Φ 0 from rfl)); iempintro
  hout d := by
    rw [Pipeline.ownSems0_none, show Pipeline.scopedRest (pcfgs (F := F) 0).spec d = (BI.emp : sProp 𝕄) from scopedRest1_eq d]
    iintro -
    isplitr; · iempintro
    isplitr <;> iempintro
  hexit d := by
    rw [show (pdats m 0 d).arrays ((pdats m 0 d).arrAt · (Pipeline.pin (pcfgs (F := F)) adm 0).N)
      = (foldDat (parts m d) m d).arrays fun w => (foldDat (parts m d) m d).arrAt w cfg1.N from rfl, arrays_split,
      rows_kept, sums_left, maxes_left]
    iintro ⟨⟨Hp, Hs, Hx⟩, HC, -, -⟩
    imodintro
    isplitl [Hp]; · iexact Hp
    isplitl [Hs]; · iexact Hs
    isplitl [Hx]; · iexact Hx
    iapply (calm_out (parts m d) m d _); iexact HC

end Cert.Proof.Pool

end
-- ==== Proof.Run.lean ====
/-
  The program's run: @main broadcasts the time, has the tiles fold the events, adds the rows up on the TensorCore and joins both
  pools into the result.
-/
module

public import proofs.«01_k».proof.Proof.Region

@[expose] public section

noncomputable section

namespace Cert.Proof.Pool

open Cert.KernelIdeal Cert.KernelIdeal.Gen Cert.Proof.Events

open Idealize.ShloMosaic
open Idealize.ShloMosaic.SparseCore (S V)
open Idealize.ShloMosaic.SparseCore.Cfg (HIx Pay)
open Idealize.ShloMosaic.Rounds
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type}

local notation "𝕄" => MT nD τ sig (HIx 1) (Elt F) ℕ UU ℕ

variable [FloatOps F] (m : (ℓ : Loc nD τ sig) → Buf (Elt F) ℓ) (ρ : Dev nD → PrngReg)

/-! ## The host's operations -/

/-- The launch memory of device `d`, by buffer. -/
def V0 (d : Dev nD) : Valuation τ sig (Elt F) := fun b => m (d, b)

include m in
/-- An operation of one operand, over its two arrays. -/
theorem wp_one (d : Dev nD) (r s : Ref sig .tc) (hne : r ≠ s) (f : r.ty.Contents (Elt F) → s.ty.Contents (Elt F)) (hr hs)
    (X : Buf (Elt F) ((SparseCore.T d : Thread nD τ).loc r)) (Y : Buf (Elt F) ((SparseCore.T d : Thread nD τ).loc s)) :
    (iprop(boundary (SparseCore.T d : Thread nD τ) ∗ ((SparseCore.T d : Thread nD τ).loc r ↦{fullShare} X)
        ∗ ((SparseCore.T d : Thread nD τ).loc s ↦{fullShare} Y)) : sProp 𝕄)
      ⊢ wp frame (wpE ((K (F := F)).defs (D (F := F))) 𝒱 (SparseCore.T d) none) Set.univ
          (hlo rfl (StableHlo.unary r s f hr hs) fun _ => .ret PUnit.unit)
          fun _ => iprop(boundary (SparseCore.T d : Thread nD τ) ∗ ((SparseCore.T d : Thread nD τ).loc r ↦{fullShare} X)
            ∗ ((SparseCore.T d : Thread nD τ).loc s ↦{fullShare} (f X : Buf (Elt F) ((SparseCore.T d : Thread nD τ).loc s)))) := by
  have hne' : (Proc.devRef .tc r : DevRef τ sig) ≠ Proc.devRef .tc s := StableHlo.devRef_ne_of_ne hne
  have hh : ∀ W : Valuation τ sig (Elt F), (StableHlo.held (SparseCore.T d : Thread nD τ) {Proc.devRef .tc r, Proc.devRef .tc s} W : sProp 𝕄)
      = iprop(((SparseCore.T d : Thread nD τ).loc r ↦{fullShare} (W (Proc.devRef .tc r) : Buf (Elt F) ((SparseCore.T d : Thread nD τ).loc r)))
        ∗ ((SparseCore.T d : Thread nD τ).loc s ↦{fullShare} (W (Proc.devRef .tc s) : Buf (Elt F) ((SparseCore.T d : Thread nD τ).loc s)))) := by
    intro W
    unfold StableHlo.held
    rw [SparseCore.bigSep_insert' (by rw [Finset.mem_singleton]; exact hne'), bigSep_singleton]
  have e := StableHlo.wp_hlo_within (nD := nD) (Name := ℕ) (U := UU) (Ix := HIx 1) (Lvl := ℕ) (defs := (K (F := F)).defs (D (F := F))) 𝒱
    (SparseCore.T d : Thread nD τ) none Set.univ (hp := rfl) (op := StableHlo.unary r s f hr hs) (k := fun _ => (.ret ⟨⟩ : Prog _ PUnit))
    (S := {Proc.devRef .tc r, Proc.devRef .tc s}) (le_refl _)
    (V := Function.update (Function.update (V0 m d) (Proc.devRef .tc r) X) (Proc.devRef .tc s) Y)
    (Q := fun _ => iprop(boundary (SparseCore.T d : Thread nD τ) ∗ ((SparseCore.T d : Thread nD τ).loc r ↦{fullShare} X)
            ∗ ((SparseCore.T d : Thread nD τ).loc s ↦{fullShare} (f X : Buf (Elt F) ((SparseCore.T d : Thread nD τ).loc s)))))
  rw [hh, hh, StableHlo.unary_result_ne (h := hne), StableHlo.unary_result, Function.update_self, Function.update_of_ne hne', Function.update_self] at e
  iintro H
  iapply e $$ [H]; · iexact H
  iintro H
  rw [wp_ret]; imodintro; iexact H

include m in
/-- An operation of two operands, over its three arrays. -/
theorem wp_two (d : Dev nD) (r r' s : Ref sig .tc) (h1 : r ≠ r') (h2 : r ≠ s) (h3 : r' ≠ s)
    (f : r.ty.Contents (Elt F) → r'.ty.Contents (Elt F) → s.ty.Contents (Elt F)) (hr hr' hs)
    (X : Buf (Elt F) ((SparseCore.T d : Thread nD τ).loc r)) (X' : Buf (Elt F) ((SparseCore.T d : Thread nD τ).loc r'))
    (Y : Buf (Elt F) ((SparseCore.T d : Thread nD τ).loc s)) :
    (iprop(boundary (SparseCore.T d : Thread nD τ) ∗ ((SparseCore.T d : Thread nD τ).loc r ↦{fullShare} X)
        ∗ ((SparseCore.T d : Thread nD τ).loc r' ↦{fullShare} X') ∗ ((SparseCore.T d : Thread nD τ).loc s ↦{fullShare} Y)) : sProp 𝕄)
      ⊢ wp frame (wpE ((K (F := F)).defs (D (F := F))) 𝒱 (SparseCore.T d) none) Set.univ
          (hlo rfl (StableHlo.binary r r' s f hr hr' hs) fun _ => .ret PUnit.unit)
          fun _ => iprop(boundary (SparseCore.T d : Thread nD τ) ∗ ((SparseCore.T d : Thread nD τ).loc r ↦{fullShare} X)
            ∗ ((SparseCore.T d : Thread nD τ).loc r' ↦{fullShare} X')
            ∗ ((SparseCore.T d : Thread nD τ).loc s ↦{fullShare} (f X X' : Buf (Elt F) ((SparseCore.T d : Thread nD τ).loc s)))) := by
  have n1 : (Proc.devRef .tc r : DevRef τ sig) ≠ Proc.devRef .tc r' := StableHlo.devRef_ne_of_ne h1
  have n2 : (Proc.devRef .tc r : DevRef τ sig) ≠ Proc.devRef .tc s := StableHlo.devRef_ne_of_ne h2
  have n3 : (Proc.devRef .tc r' : DevRef τ sig) ≠ Proc.devRef .tc s := StableHlo.devRef_ne_of_ne h3
  have hh : ∀ W : Valuation τ sig (Elt F), (StableHlo.held (SparseCore.T d : Thread nD τ) {Proc.devRef .tc r, Proc.devRef .tc r', Proc.devRef .tc s} W : sProp 𝕄)
      = iprop(((SparseCore.T d : Thread nD τ).loc r ↦{fullShare} (W (Proc.devRef .tc r) : Buf (Elt F) ((SparseCore.T d : Thread nD τ).loc r)))
        ∗ ((SparseCore.T d : Thread nD τ).loc r' ↦{fullShare} (W (Proc.devRef .tc r') : Buf (Elt F) ((SparseCore.T d : Thread nD τ).loc r')))
        ∗ ((SparseCore.T d : Thread nD τ).loc s ↦{fullShare} (W (Proc.devRef .tc s) : Buf (Elt F) ((SparseCore.T d : Thread nD τ).loc s)))) := by
    intro W
    unfold StableHlo.held
    rw [SparseCore.bigSep_insert' (by rw [Finset.mem_insert, Finset.mem_singleton]; exact fun h => h.elim n1 n2),
      SparseCore.bigSep_insert' (by rw [Finset.mem_singleton]; exact n3), bigSep_singleton]
  have e := StableHlo.wp_hlo_within (nD := nD) (Name := ℕ) (U := UU) (Ix := HIx 1) (Lvl := ℕ) (defs := (K (F := F)).defs (D (F := F))) 𝒱
    (SparseCore.T d : Thread nD τ) none Set.univ (hp := rfl) (op := StableHlo.binary r r' s f hr hr' hs) (k := fun _ => (.ret ⟨⟩ : Prog _ PUnit))
    (S := {Proc.devRef .tc r, Proc.devRef .tc r', Proc.devRef .tc s}) (le_refl _)
    (V := Function.update (Function.update (Function.update (V0 m d) (Proc.devRef .tc r) X) (Proc.devRef .tc r') X') (Proc.devRef .tc s) Y)
    (Q := fun _ => iprop(boundary (SparseCore.T d : Thread nD τ) ∗ ((SparseCore.T d : Thread nD τ).loc r ↦{fullShare} X)
            ∗ ((SparseCore.T d : Thread nD τ).loc r' ↦{fullShare} X')
            ∗ ((SparseCore.T d : Thread nD τ).loc s ↦{fullShare} (f X X' : Buf (Elt F) ((SparseCore.T d : Thread nD τ).loc s)))))
  rw [hh, hh, StableHlo.binary_result_ne (h := h2), StableHlo.binary_result_ne (h := h3), StableHlo.binary_result, Function.update_self,
    Function.update_of_ne n3, Function.update_self, Function.update_of_ne n2, Function.update_of_ne n1, Function.update_self] at e
  iintro H
  iapply e $$ [H]; · iexact H
  iintro H
  rw [wp_ret]; imodintro; iexact H

/-! ## The TensorCore's call -/

/-- Where the pipeline's ghost state lies. -/
abbrev EP : Emb (UR sig nD τ) (MT nD τ sig (HIx 1) (Elt F) ℕ UU ℕ) :=
  (Emb.inl : Emb (UR sig nD τ) (UR sig nD τ × Counters)).trans embR

instance : (EP (F := F)).LandsIn (upEmb : UEmb _ 𝕄) := by
  unfold EP; infer_instance

/-- The pipeline's ghost state on device `d`. -/
def Ghost (d : Dev nD) : sProp 𝕄 :=
  iprop(Pipeline.cellsGhost (Pipeline.pin (pcfgs (F := F)) adm) EP 0 d ∗ Pipeline.toksInit (Pipeline.pin (pcfgs (F := F)) adm) EP 0 d)

/-- The call under the SparseCore's table. -/
abbrev foldCall : Prog (TpuEff nD τ sig (Elt F) (ΛP (F := F)) .tc) PUnit := .op (.customCall (Pipeline.entry 0) ()) .ret

/-- The call of the TensorCore's kernel, from the partial sums to both pools. -/
theorem wp_fold_region [∀ e, Nonempty (Elt F e)] (d : Dev nD) :
    (iprop(boundary (SparseCore.T d : Thread nD τ) ∗ (foldSeg m).pre d ∗ levAts (K (F := F)).L (K (F := F)).lev ∗ Ghost d) : sProp 𝕄)
      ⊢ wp frame (wpE (D (F := F)) 𝒱 (SparseCore.T d) none) Set.univ (foldCall (F := F))
          fun _ => iprop(boundary (SparseCore.T d : Thread nD τ) ∗ (foldSeg m).post d) := by
  have e := Pipeline.RegionSeg.wp (pcfgs (F := F)) adm (pdats m) (none : HIx 1) cellOf_inj EP defs₀ 𝒱₀ (K (F := F)).L (K (F := F)).lev
    (foldSeg m) d none (fun _ h => absurd h (Option.not_mem_none _)) (α := PUnit) .ret
    (fun _ => iprop(boundary (SparseCore.T d : Thread nD τ) ∗ (foldSeg m).post d))
  have h0 : (iprop(boundary (SparseCore.T d : Thread nD τ) ∗ (foldSeg m).pre d ∗ levAts (K (F := F)).L (K (F := F)).lev ∗ Ghost d) : sProp 𝕄)
    ⊢ iprop(((boundary (SparseCore.T d : Thread nD τ) ∗ (foldSeg m).post d)
      -∗ wp frame (wpE (D (F := F)) 𝒱 (SparseCore.T d) none) Set.univ (.ret PUnit.unit) (fun _ => iprop(boundary (SparseCore.T d : Thread nD τ) ∗ (foldSeg m).post d)))
    ∗ boundary (SparseCore.T d : Thread nD τ) ∗ (foldSeg m).pre d ∗ levAts (K (F := F)).L (K (F := F)).lev
    ∗ Pipeline.cellsGhost (Pipeline.pin (pcfgs (F := F)) adm) EP 0 d ∗ Pipeline.toksInit (Pipeline.pin (pcfgs (F := F)) adm) EP 0 d) := by
    unfold Ghost
    iintro ⟨Hb, Hpre, Hl, Hg, Ht⟩
    isplitr
    · iintro H
      rw [wp_ret]; imodintro; iexact H
    isplitl [Hb]; · iexact Hb
    isplitl [Hpre]; · iexact Hpre
    isplitl [Hl]; · iexact Hl
    isplitl [Hg]; · iexact Hg
    iexact Ht
  exact h0.trans e

/-- The call as @main makes it. -/
theorem fold_call_eq : SparseCore.liftProg (foldCall (F := F)) = (Prog.lift (.customCall (SparseCore.inner (Pipeline.entry 0)) ())
    : Prog (TpuEff nD τ sig (Elt F) (SparseCore.Sig (ΛP (F := F)) 1) .tc) PUnit) := rfl

/-- The call of the TensorCore's kernel, in @main. -/
theorem wp_fold_call [∀ e, Nonempty (Elt F e)] (d : Dev nD) :
    (iprop(boundary (SparseCore.T d : Thread nD τ) ∗ (foldSeg m).pre d ∗ levAts (K (F := F)).L (K (F := F)).lev ∗ Ghost d) : sProp 𝕄)
      ⊢ wp frame (wpE ((K (F := F)).defs (D (F := F))) 𝒱 (SparseCore.T d) none) Set.univ
          (Prog.lift (.customCall (SparseCore.inner (Pipeline.entry 0)) ()))
          fun _ => iprop(boundary (SparseCore.T d : Thread nD τ) ∗ (foldSeg m).post d) := by
  rw [← fold_call_eq]
  exact (wp_fold_region m d).trans ((K (F := F)).wp_liftProg (D (F := F)) 𝒱 (SparseCore.T d : Thread nD τ) Set.univ none (foldCall (F := F)) _)

end Cert.Proof.Pool

end
-- ==== Proof.Main.lean ====
/-
  The whole run: from any launch memory whose buckets are in range every execution of the program ends, leaves the arguments as
  they were, leaves every semaphore at zero, and leaves both pools in the result.
-/
module

public import proofs.«01_k».proof.Proof.Run

@[expose] public section

noncomputable section

namespace Cert.Proof.Pool

open Cert.KernelIdeal Cert.KernelIdeal.Gen Cert.Proof.Events

open Idealize.ShloMosaic
open Idealize.ShloMosaic.SparseCore (S V)
open Idealize.ShloMosaic.SparseCore.Cfg (HIx Pay)
open Idealize.ShloMosaic.Rounds
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type}

local notation "𝕄" => MT nD τ sig (HIx 1) (Elt F) ℕ UU ℕ

variable [FloatOps F] (m : (ℓ : Loc nD τ sig) → Buf (Elt F) ℓ) (ρ : Dev nD → PrngReg)

/-! ## The launch's ghost state -/

/-- The handshakes' and the pipeline's state at launch. -/
def u₀ : UU := (initOf (K (F := F)).hsCells (K (F := F)).hsToks,
  (initOf (Pipeline.cells (Pipeline.pin (pcfgs (F := F)) adm) (cellOf_inj)) (Pipeline.launchToks (Pipeline.pin (pcfgs (F := F)) adm) (cellOf_inj)), 1))

omit [FloatOps F] in
/-- Nothing held over and over is nothing. -/
theorem nothing {I : Type} (s : Finset I) : (bigSep s fun _ => iprop(emp)) = (iprop(emp) : sProp 𝕄) := bigSep_emp_const s

/-- The launch deals the handshakes' state and each device's pipeline. -/
theorem hu₀ : (ownU (u₀ (F := F)) : sProp 𝕄)
    ⊢ |={Set.univ}=> iprop(BI.own (EH (initOf (K (F := F)).hsCells (K (F := F)).hsToks)) ∗ (bigSep Finset.univ fun d : Dev nD => Ghost d)
        ∗ bigSep Finset.univ fun thr : Thread nD τ => bigSep Finset.univ fun q : Fin 1 => (P m).x q thr) := by
  have hx : (bigSep Finset.univ fun thr : Thread nD τ => bigSep Finset.univ fun q : Fin 1 => (P (F := F) m).x q thr) = iprop(emp) :=
    (bigSep_congr fun _ _ => bigSep_univ_of_subsingleton (0 : Fin 1)).trans (nothing _)
  have hG : (bigSep Finset.univ fun d : Dev nD => Ghost (F := F) d)
      = iprop((bigSep Finset.univ fun d : Dev nD => bigSep Finset.univ fun p : Fin 1 => Pipeline.cellsGhost (Pipeline.pin (pcfgs (F := F)) adm) EP p d)
        ∗ (bigSep Finset.univ fun d : Dev nD => bigSep Finset.univ fun p : Fin 1 => Pipeline.toksInit (Pipeline.pin (pcfgs (F := F)) adm) EP p d)) := by
    rw [← bigSep_sep']
    refine bigSep_congr fun d _ => ?_
    rw [bigSep_univ_of_subsingleton (0 : Fin 1), bigSep_univ_of_subsingleton (0 : Fin 1)]
    rfl
  rw [hx, hG]
  unfold u₀
  iintro Hu
  ihave H := (ownU_pair (initOf (K (F := F)).hsCells (K (F := F)).hsToks) _) $$ Hu
  icases H with ⟨HH, HR⟩
  ihave H := (own_pair_emb embR (initOf (Pipeline.cells (Pipeline.pin (pcfgs (F := F)) adm) (cellOf_inj)) (Pipeline.launchToks (Pipeline.pin (pcfgs (F := F)) adm) (cellOf_inj))) (1 : Counters)) $$ HR
  icases H with ⟨HP, -⟩
  imod (Pipeline.fund_ghost (Pipeline.pin (pcfgs (F := F)) adm) EP cellOf_inj) $$ HP with ⟨Hg, Ht⟩
  imodintro
  isplitl [HH]; · iexact HH
  isplitl [Hg Ht]
  · isplitl [Hg]; · iexact Hg
    iexact Ht
  iempintro

/-! ## @main -/

/-- The result's array. -/
abbrev lo (d : Dev nD) : Loc nD τ sig := (SparseCore.T d : Thread nD τ).loc main_v5
/-- The sum pool's array. -/
abbrev la (d : Dev nD) : Loc nD τ sig := (SparseCore.T d : Thread nD τ).loc main_v3
/-- The max pool's array. -/
abbrev lb (d : Dev nD) : Loc nD τ sig := (SparseCore.T d : Thread nD τ).loc main_v4

/-- Both pools of the partial sums `A`, one after the other: the result. -/
def pools (A : S32x65536.Idx → F .f32) : FVec F S10000 .f32 :=
  concatenate S10000 0 [⟨S5000, extractStridedSlice S5000 ![0] (sums A) slices_S5120_S5000_0⟩,
    ⟨S5000, extractStridedSlice S5000 ![0] (maxes A) slices_S5120_S5000_0⟩] concatenates_S5000_S5000_S10000_d0

/-- The arrays of @main, one by one. -/
theorem unscoped_each (d : Dev nD) (W : (b : Ref sig .tc) → Buf (Elt F) ((d.tc : Thread nD τ).loc b)) :
    (unscopedBufs d W : sProp 𝕄) = iprop((l0 d ↦{fullShare} W main_arg0) ∗ (l1 d ↦{fullShare} W main_arg1) ∗ (l2 d ↦{fullShare} W main_arg2)
      ∗ (l3 d ↦{fullShare} W main_arg3) ∗ (l4 d ↦{fullShare} W main_arg4) ∗ (lt d ↦{fullShare} W main_v0) ∗ (lp d ↦{fullShare} W main_v1)
      ∗ (ls d ↦{fullShare} W main_v2_0) ∗ (lx d ↦{fullShare} W main_v2_1) ∗ (la d ↦{fullShare} W main_v3) ∗ (lb d ↦{fullShare} W main_v4)
      ∗ (lo d ↦{fullShare} W main_v5)) := by
  unfold unscopedBufs
  rw [show (Finset.univ.filter fun b : Ref sig .tc => ¬ b.isScoped)
      = {main_arg0, main_arg1, main_arg2, main_arg3, main_arg4, main_v0, main_v1, main_v2_0, main_v2_1, main_v3, main_v4, main_v5} by decide]
  iterate 11 rw [SparseCore.bigSep_insert' (by decide)]
  rw [bigSep_singleton]

/-- The broadcast of the time. -/
theorem time_spread (X : S_.Idx → F .f32) : (broadcastInDim S16 ![] bcast_S_S16 X : S16.Idx → F .f32) = fun _ => X fun a => a.elim0 :=
  funext fun j => congrArg X (funext fun a => a.elim0)

/-- What @main leaves the claim: the result and the arguments. -/
abbrev FIN (d : Dev nD) : sProp 𝕄 :=
  iprop((lo d ↦{fullShare} (pools (parts m d) : Buf (Elt F) (lo d))) ∗ (l0 d ↦{fullShare} m (l0 d)) ∗ (l1 d ↦{fullShare} m (l1 d))
    ∗ (l2 d ↦{fullShare} m (l2 d)) ∗ (l3 d ↦{fullShare} m (l3 d)) ∗ (l4 d ↦{fullShare} m (l4 d)))

/-- The levels, out of the launch's context. -/
theorem ctx_levels (κ : GSem nD τ sig → ℕ) : (K (F := F)).ctx EH (P m) κ ⊢ (levAts (K (F := F)).L (K (F := F)).lev : sProp 𝕄) := by
  unfold SparseCore.Cfg.ctx
  exact sep_elim_left

/-- After its one SparseCore call @main's thread is calm. -/
theorem calm_after (d : Dev nD) : ((K (F := F)).tcSt EH d 1 : sProp 𝕄) = iprop(Calm d
    ∗ atPos EH ((K (F := F)).doneCell d) 1 ∅ 0 ∗ reached EH ((K (F := F)).doneCell d) 1
    ∗ (bigSep Finset.univ fun c : Fin τ.nSC => reached EH ((K (F := F)).startCell d c) ((K (F := F)).sRank c 1))
    ∗ bigSep (SparseCore.Cfg.callsFrom 1) fun q : Fin 1 => bigSep Finset.univ fun c : Fin ((K (F := F)).nCore q) =>
        iprop(dutyTok EH ((K (F := F)).startCell d ((K (F := F)).core q c)) ((K (F := F)).sRank ((K (F := F)).core q c) q.val) 0
          ∗ cred (tallyAt ((K (F := F)).doneCell d) (some (SparseCore.Cfg.Blocks.last q)) 1))) := by
  unfold SparseCore.Cfg.tcSt Calm
  rw [(K (F := F)).Otc_end d (le_refl 1)]
  rfl

/-- The TensorCore's call with its arrays written out. -/
theorem wp_fold_rows [∀ e, Nonempty (Elt F e)] (d : Dev nD) :
    (iprop(boundary (SparseCore.T d : Thread nD τ)
        ∗ ((lp d ↦{fullShare} (parts m d : Buf (Elt F) (lp d))) ∗ (ls d ↦{fullShare} m (ls d)) ∗ (lx d ↦{fullShare} m (lx d)) ∗ Calm d)
        ∗ levAts (K (F := F)).L (K (F := F)).lev ∗ Ghost d) : sProp 𝕄)
      ⊢ wp frame (wpE ((K (F := F)).defs (D (F := F))) 𝒱 (SparseCore.T d) none) Set.univ
          (Prog.lift (.customCall (SparseCore.inner (Pipeline.entry 0)) ()))
          fun _ => iprop(boundary (SparseCore.T d : Thread nD τ) ∗ (lp d ↦{fullShare} (parts m d : Buf (Elt F) (lp d)))
            ∗ (ls d ↦{fullShare} (sums (parts m d) : Buf (Elt F) (ls d)))
            ∗ (lx d ↦{fullShare} (maxes (parts m d) : Buf (Elt F) (lx d))) ∗ Calm d) :=
  wp_fold_call m d

set_option maxRecDepth 16384 in
/-- @main on device `d`: the broadcast, the tiles' call, the TensorCore's call, the two cuts and their joining. -/
theorem hmain [∀ e, Nonempty (Elt F e)] (κ : GSem nD τ sig → ℕ) (d : Dev nD) :
    iprop((K (F := F)).ctx EH (P m) κ ∗ (K (F := F)).tcSt EH d 0 ∗ (K (F := F)).tcRes m ρ d ∗ Ghost d)
      ⊢ wp frame (wpE ((K (F := F)).defs (D (F := F))) 𝒱 (SparseCore.T d) none) Set.univ (main d)
          fun _ => iprop((K (F := F)).tcSt EH d 1 ∗ FIN m d ∗ (K (F := F)).tcEnd d) := by
  have hst : (bigSep Finset.univ fun c : Fin ((K (F := F)).nCore 0) => (P m).st 0 d c)
      = iprop(Args m d fullShare ∗ (lp d ↦{fullShare} m (lp d))) := (call_eq m d (m (lp d))).symm
  have hdn : (bigSep Finset.univ fun c : Fin ((K (F := F)).nCore 0) => (P m).dn 0 d c)
      = iprop(Args m d fullShare ∗ (lp d ↦{fullShare} (parts m d : Buf (Elt F) (lp d)))) := (call_eq m d (parts m d)).symm
  have h01 : ((K (F := F)).tcSt EH d ((0 : Fin 1).val + 1) : sProp 𝕄) = (K (F := F)).tcSt EH d 1 := rfl
  unfold Args at hst hdn
  unfold SparseCore.Cfg.tcRes SparseCore.Cfg.tcEnd
  rw [unscoped_each]
  simp only [main, wp_bind, wp_pure]
  iintro ⟨#Hctx, Hst, ⟨Hb, ⟨H0, H1, H2, H3, H4, Ht, Hp, Hs, Hx, Ha, Hc, Ho⟩, Hts, -⟩, HG⟩
  -- the broadcast
  iapply (wp_wand_r frame _ Set.univ)
  isplitl [Hb H4 Ht]
  · iapply (wp_one m d main_arg4 main_v0 (by decide) _ _ _ (m (l4 d)) (m (lt d)))
    isplitl [Hb]; · iexact Hb
    isplitl [H4]; · iexact H4
    iexact Ht
  iintro %_ ⟨Hb, H4, Ht⟩
  -- the tiles' call
  iapply ((K (F := F)).wp_run (D (F := F)) 𝒱 (EH := EH) (P := P m) κ d 0) $$ [Hst H0 H1 H2 H3 H4 Ht Hp Hs Hx Ha Hc Ho Hb Hts HG]
  isplitr; · iexact Hctx
  isplitl [Hst]; · iexact Hst
  isplitl [H0 H1 H2 H3 Ht Hp]
  · rw [hst]
    isplitr [Hp]
    · isplitl [H0]; · iexact H0
      isplitl [H1]; · iexact H1
      isplitl [H2]; · iexact H2
      isplitl [H3]; · iexact H3
      rw [time_spread]; iexact Ht
    iexact Hp
  iintro ⟨Hst, Hdn⟩
  ihave Hdn' := (Entails.of_eq hdn) $$ Hdn
  icases Hdn' with ⟨⟨H0, H1, H2, H3, -⟩, Hp⟩
  ihave Hst' := (Entails.of_eq (h01.trans (calm_after d))) $$ Hst
  icases Hst' with ⟨HC, Hst⟩
  -- the TensorCore's call
  iapply (wp_wand_r frame _ Set.univ)
  isplitl [Hb Hp Hs Hx HC HG]
  · iapply (wp_fold_rows m d)
    isplitl [Hb]; · iexact Hb
    isplitl [Hp Hs Hx HC]
    · isplitl [Hp]; · iexact Hp
      isplitl [Hs]; · iexact Hs
      isplitl [Hx]; · iexact Hx
      iexact HC
    isplitr
    · iapply (ctx_levels m κ); iexact Hctx
    iexact HG
  iintro %_ ⟨Hb, -, Hs, Hx, HC⟩
  -- the two cuts
  iapply (wp_wand_r frame _ Set.univ)
  isplitl [Hb Hs Ha]
  · iapply (wp_one m d main_v2_0 main_v3 (by decide) _ _ _ (sums (parts m d)) (m (la d)))
    isplitl [Hb]; · iexact Hb
    isplitl [Hs]; · iexact Hs
    iexact Ha
  iintro %_ ⟨Hb, -, Ha⟩
  iapply (wp_wand_r frame _ Set.univ)
  isplitl [Hb Hx Hc]
  · iapply (wp_one m d main_v2_1 main_v4 (by decide) _ _ _ (maxes (parts m d)) (m (lb d)))
    isplitl [Hb]; · iexact Hb
    isplitl [Hx]; · iexact Hx
    iexact Hc
  iintro %_ ⟨Hb, -, Hc⟩
  -- their joining
  iapply (wp_wand_r frame _ Set.univ)
  isplitl [Hb Ha Hc Ho]
  · iapply (wp_two m d main_v3 main_v4 main_v5 (by decide) (by decide) (by decide) _ _ _ _ _ _ (m (lo d)))
    isplitl [Hb]; · iexact Hb
    isplitl [Ha]; · iexact Ha
    isplitl [Hc]; · iexact Hc
    iexact Ho
  iintro %_ ⟨Hb, -, -, Ho⟩
  imodintro
  isplitl [HC Hst]
  · rw [calm_after]
    isplitl [HC]; · iexact HC
    iexact Hst
  isplitr [Hb Hts]
  · isplitl [Ho]; · iexact Ho
    isplitl [H0]; · iexact H0
    isplitl [H1]; · iexact H1
    isplitl [H2]; · iexact H2
    isplitl [H3]; · iexact H3
    iexact H4
  isplitl [Hb] <;> iassumption

/-- What the final state holds on device `d`. -/
def fq (d : Dev nD) (s' : Phys nD τ sig (Elt F)) : Prop :=
  s'.mem.mem (lo d) = (pools (parts m d) : Buf (Elt F) (lo d)) ∧ s'.mem.mem (l0 d) = m (l0 d) ∧ s'.mem.mem (l1 d) = m (l1 d)
    ∧ s'.mem.mem (l2 d) = m (l2 d) ∧ s'.mem.mem (l3 d) = m (l3 d) ∧ s'.mem.mem (l4 d) = m (l4 d)

/-- A buffer held whole is what the state holds. -/
theorem read_whole (s' : Phys nD τ sig (Elt F)) (ℓ : Loc nD τ sig) (f : Buf (Elt F) ℓ) :
    (iprop(SI s' ∗ (ℓ ↦{fullShare} f)) : sProp 𝕄) ⊢ iprop(⌜s'.mem.mem ℓ = f⌝ ∗ SI s') := by
  iintro H
  ihave H := (persistent_entails_right (SI_pointsTo_agree (st := s') (ℓ := ℓ) (I := Finset.univ) (q := fullShare) (f := f))) $$ H
  icases H with ⟨%h, HSI, -⟩
  isplitr
  · ipureintro; exact funext fun i => h i (Finset.mem_univ i)
  iexact HSI

/-- What @main leaves, read off the final state. -/
theorem hfin (d : Dev nD) (s' : Phys nD τ sig (Elt F)) : iprop(FIN m d ∗ SI s') ⊢ (⌜fq m d s'⌝ : sProp 𝕄) := by
  iintro ⟨⟨Ho, H0, H1, H2, H3, H4⟩, HSI⟩
  ihave H := (read_whole s' (lo d) _) $$ [HSI Ho]
  · isplitl [HSI] <;> iassumption
  icases H with ⟨%ho, HSI⟩
  ihave H := (read_whole s' (l0 d) _) $$ [HSI H0]
  · isplitl [HSI] <;> iassumption
  icases H with ⟨%h0, HSI⟩
  ihave H := (read_whole s' (l1 d) _) $$ [HSI H1]
  · isplitl [HSI] <;> iassumption
  icases H with ⟨%h1, HSI⟩
  ihave H := (read_whole s' (l2 d) _) $$ [HSI H2]
  · isplitl [HSI] <;> iassumption
  icases H with ⟨%h2, HSI⟩
  ihave H := (read_whole s' (l3 d) _) $$ [HSI H3]
  · isplitl [HSI] <;> iassumption
  icases H with ⟨%h3, HSI⟩
  ihave H := (read_whole s' (l4 d) _) $$ [HSI H4]
  · isplitl [HSI] <;> iassumption
  icases H with ⟨%h4, -⟩
  ipureintro
  exact ⟨ho, h0, h1, h2, h3, h4⟩

/-! ## The run -/

/-- The post: the result and the arguments on every device, the semaphores at zero. -/
def QC : PUnit × MemSt nD τ sig (Elt F) → Prop := fun r =>
  (∀ d : Dev nD, r.2.mem (lo d) = (pools (parts m d) : Buf (Elt F) (lo d)) ∧ r.2.mem (l0 d) = m (l0 d) ∧ r.2.mem (l1 d) = m (l1 d)
    ∧ r.2.mem (l2 d) = m (l2 d) ∧ r.2.mem (l3 d) = m (l3 d) ∧ r.2.mem (l4 d) = m (l4 d)) ∧ r.2.sem = fun _ => 0

/-- Every execution of the program ends in the post. -/
theorem run_main [∀ e, Nonempty (Elt F e)] (hpre : PreOK m) :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P m) (A := ∅) facts v₀
    (fun q hq => match q with | 0 => nomatch hq)
    (fun q _ => match q with | 0 => tileObl m hpre)
    (fun q _ => match q with | 0 => SparseCore.Cfg.VecSplit.of_plain (vecSplit m))
    m ρ main Ghost (FIN m) (u₀ (F := F)) (sep_elim_left.trans (hu₀ m)) (hmain m ρ) (fq m) (hfin m) (QC m) (fun _ h hz => ⟨h, hz⟩)

end Cert.Proof.Pool

end
-- ==== Proof.Frames.lean ====
/-
  The kernel's two frame claims, each the run with its values dropped, and what the precondition says of the launch memory.
-/
module

public import proofs.«01_k».proof.Proof.Main
public import proofs.«01_k».proof.Defs
public import proofs.«01_k».proof.Proof.Gen.Kernel
public import proofs.«01_k».proof.Proof.Gen.Pre_index_in_range
public import Idealize.ShloMosaic.Lib.ReduceAll

@[expose] public section

noncomputable section

namespace Cert.Proof.Pool

open Cert.KernelIdeal Cert.KernelIdeal.Gen
open Idealize.ShloMosaic Idealize.SL.Sem

/-- A word at least 0 and below 100000, both read signed, is below 100000 read unsigned. -/
theorem word_lt (v : BitVec 32) (h0 : 0 ≤ v.toInt) (h1 : v.toInt < 100000) : v.toNat < 100000 := by
  rw [BitVec.toInt_eq_toNat_cond] at h0 h1
  have := v.isLt
  split at h0 <;> omega

/-- The precondition over any float: every word of the index array is below 100000. -/
theorem words_lt {F : FTy → Type} [FloatOps F] (x : IVec S3200000 32) (a b c : FVec F S3200000 .f32) (t : FVec F S_ .f32)
    (h : Cert.Pre_index_in_range.fn (F := F) x a b c t = fun _ => 1#1) (i : S3200000.Idx) : (x i).toNat < 100000 := by
  have e := Host.reduce_andi_all _ _ _ _ _ (congrFun h fun a => a.elim0) i
  have e' : IntOp.andi (IntOp.cmpi .sge (x i) 0#32) (IntOp.cmpi .slt (x i) 100000#32) = 1#1 := e
  have e0 : IntOp.cmpi .sge (x i) 0#32 = 1#1 := by
    revert e'; generalize IntOp.cmpi .sge (x i) 0#32 = p; generalize IntOp.cmpi .slt (x i) 100000#32 = q; revert p q; decide
  have e1 : IntOp.cmpi .slt (x i) 100000#32 = 1#1 := by
    revert e'; generalize IntOp.cmpi .sge (x i) 0#32 = p; generalize IntOp.cmpi .slt (x i) 100000#32 = q; revert p q; decide
  have h0 := IntOp.cmpi_sge.1 e0
  have h1 := IntOp.cmpi_slt.1 e1
  exact word_lt _ (by simpa using h0) (by simpa using h1)

/-- The idealized kernel's precondition gives what its run asks. -/
theorem ok_ideal (m : (ℓ : Loc nD τ sig) → Buf (Elt Ideal) ℓ) (h : Cert.Pre_KernelIdeal m) : PreOK (F := Ideal) m :=
  fun d x => words_lt (F := Ideal) _ _ _ _ _ (h d) x

/-- The kernel's precondition gives what its run asks. -/
theorem ok_bits (m : (ℓ : Loc nD τ sig) → Buf (Elt Bits) ℓ) (h : Cert.Pre_Kernel m) : PreOK (F := Bits) m :=
  fun d x => words_lt (F := Bits) _ _ _ _ _ (h d) x

/-- The idealized kernel's frame. -/
theorem frame_ideal : Cert.quiescent_KernelIdeal := fun m ρ hpre =>
  (θ_run Cert.KernelIdeal.defs _ _).mono (fun _ h => ⟨fun c => (h.1 c).2, h.2⟩) (run_main (F := Ideal) m ρ (ok_ideal m hpre))

/-- The kernel's program is the idealized one's read at the machine's floats. -/
theorem same_threads : Cert.Kernel.threads (F := Bits) = Cert.KernelIdeal.threads (F := Bits) := rfl

/-- The kernel's bodies are the idealized one's. -/
theorem same_defs₀ : @Cert.Kernel.defs₀ Bits _ _ = @Cert.KernelIdeal.defs₀ Bits _ _ := by
  funext p ℓ a
  rcases p with _ | _ | _
  all_goals fin_cases ℓ
  all_goals rfl

/-- The kernel's body table is the idealized one's. -/
theorem same_defs : Cert.Kernel.defs (F := Bits) = Cert.KernelIdeal.defs (F := Bits) :=
  congrArg (fun D => Cert.Kernel.sc.defs (Pipeline.defs (Cert.Kernel.pcfgs (F := Bits)) D)) same_defs₀

/-- The kernel's frame: its program is the idealized one's read at the machine's floats. -/
theorem frame_kernel : Cert.quiescent_Kernel := by
  intro m ρ hpre
  rw [same_defs, same_threads]
  exact (θ_run Cert.KernelIdeal.defs _ _).mono (fun _ h => ⟨fun c => (h.1 c).2, h.2⟩) (run_main (F := Bits) m ρ (ok_bits m hpre))

end Cert.Proof.Pool

end
-- ==== Proof.Totals.lean ====
/-
  What the kernel's pools are over the extended reals: the partial sums, added over the tiles, hold in each word the total of the
  rates of the active events whose bucket that word keeps; so the sum pool is the total of ten buckets, and the max pool the
  greatest of ten buckets' totals.
-/
module

public import proofs.«01_k».proof.Proof.Main
public import Idealize.ShloMosaic.Lib.ValueLayout
public import Idealize.ShloMosaic.PureOps.Ideal.Laws

@[expose] public section

noncomputable section

namespace Cert.Proof.Pool

open Cert.KernelIdeal Cert.KernelIdeal.Gen Cert.Proof.Events
open Idealize.ShloMosaic Idealize.ShloMosaic.ValueIdx Idealize.SL.Sem

/-! ## Totals of events -/

section Totals

variable (I : S3200000.Idx → BitVec 32) (R St En : S3200000.Idx → Ideal .f32) (t : Ideal .f32)

/-- What event `n` adds to its bucket: its rate if it is active, else nothing. -/
def gain (n : ℕ) : EReal := if actW (F := Ideal) t (St (evIx n)) (En (evIx n)) = 1 then (R (evIx n) : EReal) else 0

/-- The total of bucket `w`. -/
def bucket (w : ℕ) : EReal := ∑ n ∈ Finset.range 3200000, if (I (evIx n)).toNat = w then gain R St En t n else 0

/-- The total that accumulator word `k` keeps of the `c` events from number `e` on. -/
def word (e c k : ℕ) : EReal := ∑ n ∈ Finset.range c, if posN (I (evIx (e + n))).toNat = k then gain R St En t (e + n) else 0

/-- A run of events adds to each word of the accumulator that word's total. -/
theorem run_word (hI : ∀ x, (I x).toNat < 100000) (e c : ℕ) (acc : S65536.Idx → Ideal .f32) (j : S65536.Idx) :
    (Events.run (F := Ideal) I R St En t e c acc j : EReal) = (acc j : EReal) + word I R St En t e c (j 0).val := by
  induction c with
  | zero => simp [Events.run, word]
  | succ c ih =>
    have hw : word I R St En t e (c + 1) (j 0).val
        = word I R St En t e c (j 0).val + if posN (I (evIx (e + c))).toNat = (j 0).val then gain R St En t (e + c) else 0 := by
      unfold word; rw [Finset.sum_range_succ]
    rw [hw, ← add_assoc, ← ih]
    simp only [Events.run, bump, gain, posW_toNat _ (hI _), Ideal.idxAddf_def]
    by_cases h1 : actW (F := Ideal) t (St (evIx (e + c))) (En (evIx (e + c))) = 1
    · by_cases h2 : posN (I (evIx (e + c))).toNat = (j 0).val
      · rw [if_pos ⟨h1, h2.symm⟩, if_pos h2, if_pos h1]
      · rw [if_neg (fun h => h2 h.2.symm), if_neg h2, add_zero]
    · rw [if_neg (fun h => h1 h.1), if_neg h1, ite_self, add_zero]

/-- The totals of consecutive stretches of events are the total of them all. -/
theorem word_stretches (c k l : ℕ) :
    ∑ r ∈ Finset.range l, word I R St En t (c * r) c k = word I R St En t 0 (c * l) k := by
  induction l with
  | zero => simp [word]
  | succ l ih =>
    rw [Finset.sum_range_succ, ih, Nat.mul_succ]
    unfold word
    rw [Finset.sum_range_add]
    simp only [Nat.zero_add]

/-- A word below 5000 keeps the ten buckets that the sum pool adds. -/
theorem word_sum (hI : ∀ x, (I x).toNat < 100000) (b : ℕ) (hb : b < 5000) :
    word I R St En t 0 3200000 b = ∑ u ∈ Finset.range 10, bucket I R St En t (10 * b + u) := by
  unfold bucket word
  rw [Finset.sum_comm]
  refine Finset.sum_congr rfl fun n _ => ?_
  have h := hI (evIx n)
  simp only [Nat.zero_add]
  generalize (I (evIx n)).toNat = w at h
  by_cases hw : posN w = b
  · have hw' : w = 10 * b + w % 10 := by unfold posN at hw; split at hw <;> omega
    rw [if_pos hw, Finset.sum_eq_single (w % 10)]
    · rw [if_pos hw']
    · intro u hu hne; rw [Finset.mem_range] at hu; rw [if_neg (by omega)]
    · intro hn; exact absurd (Finset.mem_range.2 (Nat.mod_lt _ (by decide))) hn
  · rw [if_neg hw]
    refine (Finset.sum_eq_zero fun u hu => ?_).symm
    rw [Finset.mem_range] at hu
    rw [if_neg]
    intro e; apply hw; unfold posN; split <;> omega

/-- A word of block `u + 1` keeps one bucket of the max pool. -/
theorem word_max (hI : ∀ x, (I x).toNat < 100000) (b u : ℕ) (hb : b < 5000) (hu : u < 10) :
    word I R St En t 0 3200000 (5120 * (u + 1) + b) = bucket I R St En t (50000 + (10 * b + u)) := by
  unfold bucket word
  refine Finset.sum_congr rfl fun n _ => ?_
  have h := hI (evIx n)
  simp only [Nat.zero_add]
  generalize (I (evIx n)).toNat = w at h
  have e : (posN w = 5120 * (u + 1) + b) ↔ (w = 50000 + (10 * b + u)) := by unfold posN; split <;> omega
  by_cases hw : posN w = 5120 * (u + 1) + b
  · rw [if_pos hw, if_pos (e.1 hw)]
  · rw [if_neg hw, if_neg (fun h' => hw (e.2 h'))]

end Totals

/-! ## The TensorCore's sums and maxima -/

/-- The sum of the first rows, at a place. -/
theorem sumTo_apply (A : S32x65536.Idx → Ideal .f32) (k : ℕ) (j : S65536.Idx) :
    (sumTo (F := Ideal) A k j : EReal) = ∑ r ∈ Finset.range (k + 1), (A (cell r (j 0)) : EReal) := by
  have hrow : ∀ r, shapeCast S65536 (rowv (F := Ideal) A r) shapeCasts_S1x65536_S65536 j = A (cell r (j 0)) := by
    intro r
    rw [eq_ix1 j]
    exact shapeCast_1a_a_apply (rowv (F := Ideal) A r) shapeCasts_S1x65536_S65536 (j 0)
  induction k with
  | zero => rw [Finset.sum_range_one]; exact hrow 0
  | succ k ih =>
    rw [Finset.sum_range_succ, ← ih, ← hrow (k + 1)]
    rfl

/-- The maximum of the first blocks, at a place: the greatest of the blocks' elements there. -/
theorem maxTo_apply (v : FVec Ideal S65536 .f32) (k : ℕ) (j : S5120.Idx) :
    (maxTo (F := Ideal) v k j : EReal) = (Finset.range (k + 1)).sup fun u => (cut (F := Ideal) v (5120 * (u + 1)) j : EReal) := by
  induction k with
  | zero => simp [maxTo]
  | succ k ih =>
    rw [Finset.range_add_one, Finset.sup_insert, ← ih, sup_comm]
    rfl

/-! ## The pools -/

variable (m : (ℓ : Loc nD τ sig) → Buf (Elt Ideal) ℓ) (d : Dev nD)

/-- The total of bucket `w` of the events in memory. -/
def bucketOf (w : ℕ) : EReal := bucket (src m d).I (src m d).R (src m d).St (src m d).En (src m d).t w

/-- The cleared accumulator is 0 everywhere. -/
theorem zeros_apply (j : S65536.Idx) : (zeros (F := Ideal) j : EReal) = 0 := Idealize.ShloMosaic.Ideal.ofBits_zero_f32

/-- A tile's accumulator holds its events' totals. -/
theorem run_zeros (s : Src Ideal) (hI : ∀ x, (s.I x).toNat < 100000) (e c : ℕ) (j : S65536.Idx) :
    (s.run e c zeros j : EReal) = word s.I s.R s.St s.En s.t e c (j 0).val := by
  exact (run_word s.I s.R s.St s.En s.t hI e c zeros j).trans (by rw [zeros_apply, zero_add])

/-- A partial sum: its tile's total of its word. -/
theorem parts_word (hpre : PreOK m) (x : S32x65536.Idx) :
    (parts m d x : EReal) = word (src m d).I (src m d).R (src m d).St (src m d).En (src m d).t (100000 * (x 0).val) 100000 (x 1).val := by
  unfold parts
  exact run_zeros (src m d) (hpre d) _ _ _

/-- The rows' sums, at a place: the place's total of all the events. -/
theorem sums_word (hpre : PreOK m) (j : S65536.Idx) :
    (sumTo (F := Ideal) (parts m d) 31 j : EReal) = word (src m d).I (src m d).R (src m d).St (src m d).En (src m d).t 0 3200000 (j 0).val := by
  have hl := word_stretches (src m d).I (src m d).R (src m d).St (src m d).En (src m d).t 100000 (j 0).val 32
  have h32 : 100000 * 32 = 3200000 := by norm_num
  rw [h32] at hl
  rw [sumTo_apply, ← hl]
  refine Finset.sum_congr rfl fun r hr => ?_
  have h0 : (cell r (j 0) 0).val = r := Nat.mod_eq_of_lt (Finset.mem_range.1 hr)
  have h1 : (cell r (j 0) 1).val = (j 0).val := rfl
  rw [parts_word m d hpre, h0, h1]

/-- The sum pool at bucket group `b`. -/
theorem sums_bucket (hpre : PreOK m) (j : S5120.Idx) (hb : (j 0).val < 5000) :
    (sums (F := Ideal) (parts m d) j : EReal) = ∑ u ∈ Finset.range 10, bucketOf m d (10 * (j 0).val + u) := by
  have hm : (0 + (j 0).val) % 65536 = (j 0).val := by omega
  refine (sums_word m d hpre _).trans ?_
  refine Eq.trans (congrArg (word _ _ _ _ _ 0 3200000) hm) ?_
  exact word_sum _ _ _ _ _ (hpre d) _ hb

/-- The max pool at bucket group `b`. -/
theorem maxes_bucket (hpre : PreOK m) (j : S5120.Idx) (hb : (j 0).val < 5000) :
    (maxes (F := Ideal) (parts m d) j : EReal) = (Finset.range 10).sup fun u => bucketOf m d (50000 + (10 * (j 0).val + u)) := by
  refine (maxTo_apply _ 9 j).trans ?_
  refine Finset.sup_congr rfl fun u hu => ?_
  have hu' : u < 10 := Finset.mem_range.1 hu
  have hm : (5120 * (u + 1) + (j 0).val) % 65536 = 5120 * (u + 1) + (j 0).val := by omega
  refine (sums_word m d hpre _).trans ?_
  refine Eq.trans (congrArg (word _ _ _ _ _ 0 3200000) hm) ?_
  exact word_max _ _ _ _ _ (hpre d) _ _ hb hu'

end Cert.Proof.Pool

end
-- ==== Proof.Buckets.lean ====
/-
  What the reference computes over the extended reals: its scatter holds in each bucket the total of the rates of the active events
  with that index, the sum pool is the total of ten of them, and the max pool the greatest of ten.
-/
module

public import proofs.«01_k».proof.Proof.Totals
public import proofs.«01_k».proof.Proof.Gen.ReferenceIdeal
public import Idealize.ShloMosaic.Lib.Routing.OpsPair

@[expose] public section

noncomputable section

namespace Cert.Proof.Pooled

open Cert.ReferenceIdeal Cert.ReferenceIdeal.Gen Cert.Proof.Events Cert.Proof.Pool
open Idealize.ShloMosaic Idealize.ShloMosaic.ValueIdx Idealize.ShloMosaic.Routing

/-! ## Where an update lands -/

/-- One update of a scatter of `U` scalars into a vector of `N` lands on the place that its index word, read signed, names. -/
theorem lands {N U : ℕ} (d : ScatterDims ⟨1, ![N]⟩ ⟨2, ![U, 1]⟩ ⟨1, ![U]⟩) (hiw : d.insertedWindowDims = [0])
    (hsd : d.scatterDimsToOperandDims = [0]) (hiv : d.indexVectorDim = 1) (idx : IVec ⟨2, ![U, 1]⟩ 32) (i : Fin U) (x : Fin N) :
    d.resultIdx? (ix1 i) idx = some (ix1 x) ↔ (idx (ix2 i (0 : Fin 1))).toInt = (x.val : ℤ) := by
  have h0 : (0 : Fin 1) ∈ d.scatterDimsToOperandDims := by simp [hsd]
  have hw : d.window (ix1 i) 0 = 0 := dif_neg fun h => by
    have := (List.mem_filter.1 h).2
    simp [hiw] at this
  have hs : d.siIdx (ix1 i) ⟨d.scatterDimsToOperandDims.idxOf 0, List.idxOf_lt_length_iff.2 h0⟩ = ix2 i (0 : Fin 1) := by
    funext b
    match b with
    | ⟨0, _⟩ =>
      refine (dif_neg (by simp [hiv])).trans (Fin.ext ?_)
      have e : ∀ X : Fin 1, (ix1 i X).val = i.val := fun X => by rw [Subsingleton.elim X 0]
      exact e _
    | ⟨1, _⟩ => exact Subsingleton.elim (α := Fin 1) _ _
  have hst : d.start (ix1 i) idx 0 = (idx (ix2 i (0 : Fin 1))).toInt := (dif_pos h0).trans (by rw [hs])
  rw [resultIdx?_ix1, hst, hw]
  simp

/-- The same at any index of an update and of a place. -/
theorem lands_at {N U : ℕ} (d : ScatterDims ⟨1, ![N]⟩ ⟨2, ![U, 1]⟩ ⟨1, ![U]⟩) (hiw : d.insertedWindowDims = [0])
    (hsd : d.scatterDimsToOperandDims = [0]) (hiv : d.indexVectorDim = 1) (idx : IVec ⟨2, ![U, 1]⟩ 32)
    (k : (⟨1, ![U]⟩ : Shape).Idx) (x : (⟨1, ![N]⟩ : Shape).Idx) :
    d.resultIdx? k idx = some x ↔ (idx (ix2 (k 0) (0 : Fin 1))).toInt = ((x 0).val : ℤ) := by
  obtain ⟨a, rfl⟩ : ∃ a, k = ix1 a := ⟨_, eq_ix1 k⟩
  obtain ⟨b, rfl⟩ : ∃ b, x = ix1 b := ⟨_, eq_ix1 x⟩
  exact lands d hiw hsd hiv idx a b

/-- A sum over the events' indices is the sum over their numbers. -/
theorem sum_events (g : S3200000.Idx → EReal) : ∑ x, g x = ∑ n ∈ Finset.range 3200000, g (evIx n) := by
  refine Finset.sum_nbij' (fun x => (x 0).val) evIx (fun x _ => Finset.mem_range.2 (x 0).isLt) (fun _ _ => Finset.mem_univ _)
    (fun x _ => evIx_eq x) (fun n hn => ?_) (fun x _ => by rw [evIx_eq])
  exact Nat.mod_eq_of_lt (Finset.mem_range.1 hn)

/-- A scatter into zeros holds at a place the total of the updates that land there. -/
theorem scatter_from_zero {s si u : Shape} (d : ScatterDims s si u) (x : FVec Ideal s .f32) (hx : ∀ i, (x i : EReal) = 0)
    (idx : IVec si 32) (upd : FVec Ideal u .f32) (i : s.Idx) :
    (Host.scatterAdd d x idx upd i : EReal) = 0 + ∑ j ∈ Finset.univ.filter (fun j => d.resultIdx? j idx = some i), (upd j : EReal) :=
  congrArg (fun y : EReal => y + ∑ j ∈ Finset.univ.filter (fun j => d.resultIdx? j idx = some i), (upd j : EReal)) (hx i)

/-! ## The scatter -/

section Scatter

variable (I : S3200000.Idx → BitVec 32) (R St En : S3200000.Idx → Ideal .f32) (t : S_.Idx → Ideal .f32)

/-- The masked rates. -/
def rates : FVec Ideal S3200000 .f32 :=
  mulf R (uitofp .f32 (andi (cmpf .ole St (broadcastInDim S3200000 ![] bcast_S_S3200000 t)) (cmpf .olt (broadcastInDim S3200000 ![] bcast_S_S3200000 t) En)))

/-- The indices, a negative one counted from the end. -/
def places : IVec S3200000x1 32 :=
  broadcastInDim S3200000x1 ![0] bcast_S3200000_S3200000x1_0
    (select (cmpi .slt I (broadcastInDim S3200000 ![] bcast_S_S3200000 (constantI S_ 32 0#32)))
      (addi I (broadcastInDim S3200000 ![] bcast_S_S3200000 (constantI S_ 32 100000#32))) I)

/-- The buckets. -/
def buckets : FVec Ideal S100000 .f32 :=
  Host.scatterAdd scatter_S100000_S3200000x1_S3200000_n_0_0_1 (broadcastInDim S100000 ![] bcast_S_S100000 (constant S_ .f32 0x00000000#32))
    (places I) (rates R St En t)

/-- A masked rate is what its event adds. -/
theorem rates_apply (n : ℕ) : (rates R St En t (evIx n) : EReal) = gain R St En (t ix0) n := by
  have e : (rates R St En t (evIx n) : EReal)
      = (R (evIx n) : EReal) * (((actW (F := Ideal) (t ix0) (St (evIx n)) (En (evIx n))).toNat : ℝ) : EReal) := by
    have h0 : ∀ x : S3200000.Idx, broadcastInDim S3200000 ![] bcast_S_S3200000 t x = t ix0 := fun x => congrArg t (eq_ix0 _)
    show (R (evIx n) : EReal) * (((IntOp.andi (FloatOps.cmpf .ole (St (evIx n)) (broadcastInDim S3200000 ![] bcast_S_S3200000 t (evIx n)))
      (FloatOps.cmpf .olt (broadcastInDim S3200000 ![] bcast_S_S3200000 t (evIx n)) (En (evIx n)))).toNat : ℝ) : EReal) = _
    rw [h0]; rfl
  rw [e]
  unfold gain
  generalize actW (F := Ideal) (t ix0) (St (evIx n)) (En (evIx n)) = b
  have hb : b = 0#1 ∨ b = 1#1 := by revert b; decide
  rcases hb with rfl | rfl
  · rw [if_neg (by decide)]; simp
  · rw [if_pos (show (1#1 : BitVec 1) = 1 from rfl)]; simp

/-- An index below 100000 is its own place. -/
theorem places_apply (hI : ∀ x, (I x).toNat < 100000) (n : ℕ) : (places I (ix2 (evIx n 0) (0 : Fin 1))).toInt = (((I (evIx n)).toNat : ℕ) : ℤ) := by
  have h := hI (evIx n)
  have hx : (places I (ix2 (evIx n 0) (0 : Fin 1))) = Scalar.select (IntOp.cmpi .slt (I (evIx n)) 0#32) (I (evIx n) + 100000#32) (I (evIx n)) := by
    have hi : ∀ (X : S3200000.Idx), X = evIx n → select (cmpi .slt I (broadcastInDim S3200000 ![] bcast_S_S3200000 (constantI S_ 32 0#32)))
        (addi I (broadcastInDim S3200000 ![] bcast_S_S3200000 (constantI S_ 32 100000#32))) I X
          = Scalar.select (IntOp.cmpi .slt (I (evIx n)) 0#32) (I (evIx n) + 100000#32) (I (evIx n)) := by
      rintro X rfl; rfl
    refine hi _ (funext fun a => ?_)
    obtain rfl : a = 0 := Subsingleton.elim _ _
    exact Fin.ext rfl
  rw [hx]
  generalize I (evIx n) = w at h
  have hs : IntOp.cmpi .slt w 0#32 = 0#1 := by
    unfold IntOp.cmpi
    have : w.slt 0#32 = false := by
      rw [BitVec.slt_eq_decide, decide_eq_false_iff_not, BitVec.toInt_eq_toNat_cond]
      simp; omega
    rw [this]; rfl
  rw [hs]
  show w.toInt = _
  rw [BitVec.toInt_eq_toNat_cond, if_pos (by omega)]

/-- The scatter holds the buckets' totals. -/
theorem buckets_apply (hI : ∀ x, (I x).toNat < 100000) (x : S100000.Idx) :
    (buckets I R St En t x : EReal) = bucket I R St En (t ix0) (x 0).val := by
  have e : (buckets I R St En t x : EReal) = 0 + ∑ j ∈ Finset.univ.filter
      (fun j => scatter_S100000_S3200000x1_S3200000_n_0_0_1.resultIdx? j (places I) = some x), (rates R St En t j : EReal) := by
    unfold buckets
    exact scatter_from_zero _ _ (fun _ => Idealize.ShloMosaic.Ideal.ofBits_zero_f32) _ _ x
  rw [e, zero_add, Finset.sum_filter, sum_events]
  unfold bucket
  refine Finset.sum_congr rfl fun n _ => ?_
  have hl := lands_at scatter_S100000_S3200000x1_S3200000_n_0_0_1 rfl rfl rfl (places I) (evIx n) x
  rw [places_apply I hI, Nat.cast_inj] at hl
  rw [rates_apply]
  exact if_congr hl rfl rfl

end Scatter

end Cert.Proof.Pooled

end
-- ==== Proof.Agree.lean ====
/-
  The two programs agree over the extended reals: the kernel's result, read off its run, is the reference's.
-/
module

public import proofs.«01_k».proof.Proof.Buckets
public import proofs.«01_k».proof.Proof.Frames
public import proofs.«01_k».proof.Proof.Gen.ReferenceIdeal.Run
public import Idealize.ShloMosaic.Lib.Pointwise.Reduce

@[expose] public section

noncomputable section

namespace Cert.Proof.Pooled

open Cert.ReferenceIdeal Cert.ReferenceIdeal.Gen
open Idealize.ShloMosaic Idealize.SL.Sem

/-! ## The reference's pools -/

section Pools

variable (V : S100000.Idx → EReal) (g : ℕ → EReal) (hV : ∀ x, V x = g (x 0).val)

/-- Half of the buckets in rows of ten, from bucket `o` on: row `a`, column `k` is bucket `o + (10 a + k)`. -/
theorem rows_apply (hV : ∀ x, V x = g (x 0).val) (o : ℕ) (hs : S100000.Slices ![o] S50000) (hc : S50000.ShapeCasts S5000x10) (y : S5000x10.Idx) :
    shapeCast S5000x10 (extractStridedSlice S50000 ![o] V hs) hc y = g (o + (10 * (y 0).val + (y 1).val)) := by
  have h0 : (y 0).val < 5000 := (y 0).isLt
  have h1 : (y 1).val < 10 := (y 1).isLt
  rw [shapeCast_apply (extractStridedSlice S50000 ![o] V hs) hc y (fun a => ⟨10 * (y 0).val + (y 1).val, by
    obtain rfl : a = 0 := Subsingleton.elim _ _
    show _ < 50000
    omega⟩) (by
    rw [Shape.rowMajor_val_one, Shape.rowMajor_val_two]
    show 10 * (y 0).val + (y 1).val = (y 0).val * 10 + (y 1).val
    omega)]
  exact hV _

/-- The sum pool of ten buckets. -/
theorem sum_pool (hV : ∀ x, V x = g (x 0).val) (hs : S100000.Slices ![0] S50000) (hc : S50000.ShapeCasts S5000x10)
    (hr : S5000x10.ReducesTo [1] S5000) (h1 : 0 < S_.numel) (j : S5000.Idx) :
    (Host.reduceAdd (F := Ideal) (φ := .f32) (shapeCast S5000x10 (extractStridedSlice S50000 ![0] V hs) hc) (constant S_ .f32 0x00000000#32) hr h1 j : EReal)
      = ∑ u ∈ Finset.range 10, g (10 * (j 0).val + u) := by
  refine (Idealize.ShloMosaic.Ideal.hostReduceAdd_r2_a1 hr _ _ j).trans ?_
  rw [show (constant (F := Ideal) S_ .f32 0x00000000#32 (Shape.Idx.first h1) : EReal) = 0 from Idealize.ShloMosaic.Ideal.ofBits_zero_f32, zero_add,
    ← Fin.sum_univ_eq_sum_range (fun u => g (10 * (j 0).val + u))]
  refine Finset.sum_congr rfl fun k _ => ?_
  rw [rows_apply V g hV]
  exact congrArg g (Nat.zero_add _)

/-- The word of the least value. -/
theorem least : (Idealize.ShloMosaic.Ideal.ofBits .f32 0xFF800000#32 : EReal) = ⊥ := by
  simp [Idealize.ShloMosaic.Ideal.ofBits, Idealize.ShloMosaic.Ideal.ieee]

/-- The max pool of ten buckets. -/
theorem max_pool (hV : ∀ x, V x = g (x 0).val) (hs : S100000.Slices ![50000] S50000) (hc : S50000.ShapeCasts S5000x10)
    (hr : S5000x10.ReducesTo [1] S5000) (h1 : 0 < S_.numel) (j : S5000.Idx) :
    (Host.reduce (FloatOps.maximumf (F := Ideal) (φ := .f32)) (shapeCast S5000x10 (extractStridedSlice S50000 ![50000] V hs) hc)
        (constant (F := Ideal) S_ .f32 0xFF800000#32) hr h1 j : EReal)
      = (Finset.range 10).sup fun u => g (50000 + (10 * (j 0).val + u)) := by
  rw [Host.reduce_eq_fold, Shape.ReducesTo.fold_fiber_r2_a1,
    show (constant (F := Ideal) S_ .f32 0xFF800000#32 (Shape.Idx.first h1) : EReal) = ⊥ from least]
  refine Eq.trans (b := (Finset.univ : Finset (Fin 10)).sup fun k => g (50000 + (10 * (j 0).val + k.val))) ?_ ?_
  · refine Finset.fold_congr fun k _ => ?_
    exact rows_apply V g hV _ _ _ _
  · apply le_antisymm
    · exact Finset.sup_le fun k _ => Finset.le_sup (f := fun u => g (50000 + (10 * (j 0).val + u))) (Finset.mem_range.2 k.isLt)
    · exact Finset.sup_le fun u hu =>
        Finset.le_sup (f := fun k : Fin 10 => g (50000 + (10 * (j 0).val + k.val))) (Finset.mem_univ (⟨u, Finset.mem_range.1 hu⟩ : Fin 10))

end Pools

/-! ## The agreement -/

/-- What the reference leaves in its result: the sum pool of the first half of the buckets, then the max pool of the second. -/
def answer (I : S3200000.Idx → BitVec 32) (R St En : S3200000.Idx → Ideal .f32) (t : S_.Idx → Ideal .f32) : FVec Ideal S10000 .f32 :=
  concatenate S10000 0
    [⟨S5000, Host.reduceAdd (shapeCast _ (extractStridedSlice S50000 ![0] (buckets I R St En t) slices_S100000_S50000_0) shapeCasts_S50000_S5000x10)
      (constant S_ .f32 0x00000000#32) reducesTo_S5000x10_S5000_d1 h_S_⟩,
    ⟨S5000, Host.reduce FloatOps.maximumf (shapeCast _ (extractStridedSlice S50000 ![50000] (buckets I R St En t) slices_S100000_S50000_50000) shapeCasts_S50000_S5000x10)
      (constant S_ .f32 0xFF800000#32) reducesTo_S5000x10_S5000_d1 h_S_⟩] concatenates_S5000_S5000_S10000_d0

/-- Two joined pairs of vectors agree when their parts do. -/
theorem joined {a b a' b' : FVec Ideal S5000 .f32} (ha : a = a') (hb : b = b') :
    concatenate S10000 0 [⟨S5000, a⟩, ⟨S5000, b⟩] concatenates_S5000_S5000_S10000_d0
      = concatenate S10000 0 [⟨S5000, a'⟩, ⟨S5000, b'⟩] concatenates_S5000_S5000_S10000_d0 := by
  subst ha; subst hb; rfl

/-- The first 5000 words of a vector whose words there are given by `f`. -/
theorem head_apply (v : Cert.KernelIdeal.S5120.Idx → EReal) (f : ℕ → EReal) (hv : ∀ i : Cert.KernelIdeal.S5120.Idx, (i 0).val < 5000 → v i = f (i 0).val)
    (hs : Cert.KernelIdeal.S5120.Slices ![0] S5000) (j : S5000.Idx) : extractStridedSlice S5000 ![0] v hs j = f (j 0).val := by
  have hj : 0 + (j 0).val < 5000 := by rw [Nat.zero_add]; exact (j 0).isLt
  unfold extractStridedSlice
  exact (hv _ hj).trans (congrArg f (Nat.zero_add _))

/-- The kernel's result is the reference's of the same arguments. -/
theorem agree (m : (ℓ : Loc Cert.KernelIdeal.nD Cert.KernelIdeal.τ Cert.KernelIdeal.sig) → Buf (Elt Ideal) ℓ) (d : Dev Cert.KernelIdeal.nD)
    (hpre : Cert.Proof.Pool.PreOK (F := Ideal) m) :
    Cert.Proof.Pool.pools (F := Ideal) (Cert.Proof.Pool.parts m d)
      = answer (m (Cert.Proof.Pool.l0 d)) (m (Cert.Proof.Pool.l1 d)) (m (Cert.Proof.Pool.l2 d)) (m (Cert.Proof.Pool.l3 d)) (m (Cert.Proof.Pool.l4 d)) := by
  have hV : ∀ x, (buckets (m (Cert.Proof.Pool.l0 d)) (m (Cert.Proof.Pool.l1 d)) (m (Cert.Proof.Pool.l2 d)) (m (Cert.Proof.Pool.l3 d)) (m (Cert.Proof.Pool.l4 d)) x : EReal)
      = Cert.Proof.Pool.bucketOf m d (x 0).val := fun x => buckets_apply _ _ _ _ _ (hpre d) x
  unfold Cert.Proof.Pool.pools answer
  refine joined (funext fun j => ?_) (funext fun j => ?_)
  · refine Eq.trans ?_ (sum_pool _ _ hV _ _ _ _ j).symm
    exact head_apply _ (fun b => ∑ u ∈ Finset.range 10, Cert.Proof.Pool.bucketOf m d (10 * b + u))
      (fun i hi => Cert.Proof.Pool.sums_bucket m d hpre i hi) _ j
  · refine Eq.trans ?_ (max_pool _ _ hV _ _ _ _ j).symm
    exact head_apply _ (fun b => (Finset.range 10).sup fun u => Cert.Proof.Pool.bucketOf m d (50000 + (10 * b + u)))
      (fun i hi => Cert.Proof.Pool.maxes_bucket m d hpre i hi) _ j

/-- The reference's run leaves `answer` of its arguments. -/
theorem run_answer (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v21) = answer (m ((c.tc : Thread nD τ).loc main_arg0)) (m ((c.tc : Thread nD τ).loc main_arg1))
          (m ((c.tc : Thread nD τ).loc main_arg2)) (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  Cert.ReferenceIdeal.Value.run (F := Ideal) m ρ

/-- The two idealized programs agree on equal arguments, every index in range. -/
theorem agree_runs : Cert.algebraic_KernelIdeal_ReferenceIdeal := fun m g m' g' hpre hargs => by
  have ok := Cert.Proof.Pool.ok_ideal m hpre
  refine ⟨fun c => Cert.Proof.Pool.pools (F := Ideal) (Cert.Proof.Pool.parts m c), ?_, ?_⟩
  · exact (θ_run Cert.KernelIdeal.defs _ _).mono (fun _ h c => h.1 c) (Cert.Proof.Pool.run_main (F := Ideal) m g ok)
  · refine (θ_run Cert.ReferenceIdeal.defs _ _).mono (fun _ h c => ⟨(h c).1.trans ?_, (h c).2⟩) (run_answer m' g')
    obtain ⟨e0, e1, e2, e3, e4⟩ := hargs c
    rw [e0, e1, e2, e3, e4]
    exact (agree m c ok).symm

end Cert.Proof.Pooled

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.ReferenceIdeal
public import proofs.«01_k».proof.Proof.Gen.ReferenceIdeal.Run
public import proofs.«01_k».proof.Proof.Frames
public import proofs.«01_k».proof.Proof.Agree
public import proofs.«01_k».proof.Proof.Gen.Pre_index_in_range
public import Idealize.ShloMosaic.Adequacy
public import Idealize.ShloMosaic.Init

@[expose] public section

noncomputable section

namespace Cert.Proof

open Idealize.ShloMosaic Idealize.SL.Sem Cert.Kernel

/-- The reference's frame: its run leaves the arguments, and it has no semaphore. -/
theorem frame_reference : Cert.quiescent_ReferenceIdeal := fun m ρ _ =>
  (θ_run Cert.ReferenceIdeal.defs _ _).mono
    (fun r h => ⟨fun c => (h c).2, Idealize.ShloMosaic.sem_eq_zero_of_no_sems (by decide) r.2⟩)
    (Cert.ReferenceIdeal.Value.run (F := Ideal) m ρ)

/-- The certificate's claim. -/
theorem claim : Cert.Claim := ⟨Cert.Kernel.Gen.facts, Cert.KernelIdeal.Gen.facts, Cert.ReferenceIdeal.Gen.facts, Cert.Pre_index_in_range.Gen.facts,
  Cert.Proof.Pool.frame_kernel, Cert.Proof.Pool.frame_ideal, frame_reference, trivial, Cert.Proof.Pooled.agree_runs⟩

end Cert.Proof

end
